-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arange_indices_finite_inputs [hPre_arange_indices_finite_inputs : Cert.Pre_arange_indices_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_arange_indices_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_arange_indices_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_arange_indices_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_arange_indices_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arange_indices_finite_inputs [hPre_arange_indices_finite_inputs : Cert.Pre_arange_indices_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arange_indices_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_arange_indices_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_arange_indices_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_arange_indices_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_arange_indices_finite_inputs [hKernelIdeal : Cert.KernelIdeal.Facts] [hPre_arange_indices_finite_inputs : Cert.Pre_arange_indices_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arange_indices_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_arange_indices_finite_inputs [hReferenceIdeal : Cert.ReferenceIdeal.Facts] [hPre_arange_indices_finite_inputs : Cert.Pre_arange_indices_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arange_indices_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_arange_indices_finite_inputs [hKernelIdeal : Cert.KernelIdeal.Facts] [hReferenceIdeal : Cert.ReferenceIdeal.Facts] [hPre_arange_indices_finite_inputs : Cert.Pre_arange_indices_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arange_indices_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_arange_indices_finite_inputs : Cert.Pre_arange_indices_finite_inputs.Facts),
    quiescent_Kernel (hKernel := hKernel)
    ∧ quiescent_KernelIdeal (hKernelIdeal := hKernelIdeal)
    ∧ quiescent_KernelIdeal_pre_arange_indices_finite_inputs (hKernelIdeal := hKernelIdeal) (hPre_arange_indices_finite_inputs := hPre_arange_indices_finite_inputs)
    ∧ quiescent_ReferenceIdeal (hReferenceIdeal := hReferenceIdeal)
    ∧ quiescent_ReferenceIdeal_pre_arange_indices_finite_inputs (hReferenceIdeal := hReferenceIdeal) (hPre_arange_indices_finite_inputs := hPre_arange_indices_finite_inputs)
    ∧ preserves_Kernel_KernelIdeal
    ∧ algebraic_KernelIdeal_ReferenceIdeal_pre_arange_indices_finite_inputs (hKernelIdeal := hKernelIdeal) (hReferenceIdeal := hReferenceIdeal) (hPre_arange_indices_finite_inputs := hPre_arange_indices_finite_inputs)
-- ==== Pre_arange_indices_finite_inputs.lean ====
abbrev S8192x2048 : Shape := ⟨2, ![8192, 2048]⟩
abbrev S12x2048 : Shape := ⟨2, ![12, 2048]⟩
abbrev S2048 : Shape := ⟨1, ![2048]⟩
abbrev S4096 : Shape := ⟨1, ![4096]⟩
abbrev S4096x2048 : Shape := ⟨2, ![4096, 2048]⟩
abbrev S_ : Shape := ⟨0, ![]⟩
abbrev S6x2048 : Shape := ⟨2, ![6, 2048]⟩

class Facts : Prop where
  slices_S8192x2048_S4096x2048_0_0 : S8192x2048.Slices ![0, 0] S4096x2048
  bcast_S_S4096x2048 : S_.BroadcastsInDim S4096x2048 (![] : Fin 0 → Fin S4096x2048.rank)
  slices_S12x2048_S6x2048_0_0 : S12x2048.Slices ![0, 0] S6x2048
  bcast_S_S6x2048 : S_.BroadcastsInDim S6x2048 (![] : Fin 0 → Fin S6x2048.rank)

variable [Facts]

def fn {F : FTy → Type} [FloatOps F] (main_arg0 : FVec F S8192x2048 .f32) (main_arg1 : FVec F S12x2048 .f32) (main_arg2 : FVec F S2048 .f32) (main_arg3 : IVec S4096 32) (main_arg4 : IVec S4096 32) : IVec S4096x2048 1 × IVec S6x2048 1 × IVec S4096 1 × IVec S4096 1 :=
  let main_v0 : IVec S4096 32 := iotaInDim S4096 32 0
  let main_v1 : FVec F S4096x2048 .f32 := (extractStridedSlice S4096x2048 ![0, 0] · slices_S8192x2048_S4096x2048_0_0) main_arg0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S6x2048 .f32 := (extractStridedSlice S6x2048 ![0, 0] · slices_S12x2048_S6x2048_0_0) main_arg1
  let main_v6 : FVec F S6x2048 .f32 := Host.absf main_v5
  let main_cst_0 : FVec F S_ .f32 := constant S_ .f32 0x7F800000#32
  let main_v7 : FVec F S6x2048 .f32 := broadcastInDim S6x2048 ![] bcast_S_S6x2048 main_cst_0
  let main_v8 : IVec S6x2048 1 := cmpf .olt main_v6 main_v7
  let main_v9 : IVec S4096 1 := cmpi .eq main_arg3 main_v0
  let main_v10 : IVec S4096 1 := cmpi .eq main_arg4 main_v0
  (main_v4, main_v8, main_v9, main_v10)
-- ==== Kernel.lean ====
abbrev S8192x2048 : Shape := ⟨2, ![8192, 2048]⟩
abbrev S12x2048 : Shape := ⟨2, ![12, 2048]⟩
abbrev S2048 : Shape := ⟨1, ![2048]⟩
abbrev S4096 : Shape := ⟨1, ![4096]⟩
abbrev S1x2048 : Shape := ⟨2, ![1, 2048]⟩
abbrev S2048x1x1 : Shape := ⟨3, ![2048, 1, 1]⟩
abbrev S2048x2x1 : Shape := ⟨3, ![2048, 2, 1]⟩
abbrev S_ : Shape := ⟨0, ![]⟩
abbrev S1024x1x2 : Shape := ⟨3, ![1024, 1, 2]⟩
abbrev S1024x2x2 : Shape := ⟨3, ![1024, 2, 2]⟩
abbrev S512x1x4 : Shape := ⟨3, ![512, 1, 4]⟩
abbrev S512x2x4 : Shape := ⟨3, ![512, 2, 4]⟩
abbrev S256x1x8 : Shape := ⟨3, ![256, 1, 8]⟩
abbrev S256x2x8 : Shape := ⟨3, ![256, 2, 8]⟩
abbrev S128x1x16 : Shape := ⟨3, ![128, 1, 16]⟩
abbrev S128x2x16 : Shape := ⟨3, ![128, 2, 16]⟩
abbrev S64x1x32 : Shape := ⟨3, ![64, 1, 32]⟩
abbrev S64x2x32 : Shape := ⟨3, ![64, 2, 32]⟩
abbrev S32x1x64 : Shape := ⟨3, ![32, 1, 64]⟩
abbrev S32x2x64 : Shape := ⟨3, ![32, 2, 64]⟩
abbrev S16x1x128 : Shape := ⟨3, ![16, 1, 128]⟩
abbrev S16x2x128 : Shape := ⟨3, ![16, 2, 128]⟩
abbrev S8x1x256 : Shape := ⟨3, ![8, 1, 256]⟩
abbrev S8x2x256 : Shape := ⟨3, ![8, 2, 256]⟩
abbrev S4x1x512 : Shape := ⟨3, ![4, 1, 512]⟩
abbrev S4x2x512 : Shape := ⟨3, ![4, 2, 512]⟩
abbrev S2x1x1024 : Shape := ⟨3, ![2, 1, 1024]⟩
abbrev S2x2x1024 : Shape := ⟨3, ![2, 2, 1024]⟩
abbrev S1x1x2048 : Shape := ⟨3, ![1, 1, 2048]⟩
abbrev S1x2x2048 : Shape := ⟨3, ![1, 2, 2048]⟩
abbrev S256x16 : Shape := ⟨2, ![256, 16]⟩
abbrev S256x8 : Shape := ⟨2, ![256, 8]⟩
abbrev S1 : Shape := ⟨1, ![1]⟩
abbrev S8 : Shape := ⟨1, ![8]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4096x8 : Shape := ⟨2, ![4096, 8]⟩
abbrev S4096x40 : Shape := ⟨2, ![4096, 40]⟩
abbrev S256x256 : Shape := ⟨2, ![256, 256]⟩
abbrev S1x256x1x256 : Shape := ⟨4, ![1, 256, 1, 256]⟩
abbrev S16x256x1x256 : Shape := ⟨4, ![16, 256, 1, 256]⟩
abbrev S4096x256 : Shape := ⟨2, ![4096, 256]⟩
abbrev S4095x256 : Shape := ⟨2, ![4095, 256]⟩
abbrev S1x256 : Shape := ⟨2, ![1, 256]⟩
abbrev S4094x256 : Shape := ⟨2, ![4094, 256]⟩
abbrev S2x256 : Shape := ⟨2, ![2, 256]⟩
abbrev S4092x256 : Shape := ⟨2, ![4092, 256]⟩
abbrev S4x256 : Shape := ⟨2, ![4, 256]⟩
abbrev S4088x256 : Shape := ⟨2, ![4088, 256]⟩
abbrev S8x256 : Shape := ⟨2, ![8, 256]⟩
abbrev S4080x256 : Shape := ⟨2, ![4080, 256]⟩
abbrev S16x256 : Shape := ⟨2, ![16, 256]⟩
abbrev S4064x256 : Shape := ⟨2, ![4064, 256]⟩
abbrev S32x256 : Shape := ⟨2, ![32, 256]⟩
abbrev S8192x256 : Shape := ⟨2, ![8192, 256]⟩
abbrev S512x256 : Shape := ⟨2, ![512, 256]⟩
abbrev S512x1 : Shape := ⟨2, ![512, 1]⟩
abbrev S448x256 : Shape := ⟨2, ![448, 256]⟩
abbrev S64x256 : Shape := ⟨2, ![64, 256]⟩
abbrev S384x256 : Shape := ⟨2, ![384, 256]⟩
abbrev S128x256 : Shape := ⟨2, ![128, 256]⟩

abbrev nBuf : Space → Nat
  | .hbm => 413
  | .vmem => 8
  | .smem => 0
  | _ => 0

abbrev hbmTy0_0 (i : Nat) : BufTy := match i % 128 with
  | 0 => ⟨S8192x2048, .f32⟩
  | 1 => ⟨S12x2048, .f32⟩
  | 2 => ⟨S2048, .f32⟩
  | 3 => ⟨S4096, .i32⟩
  | 4 => ⟨S4096, .i32⟩
  | 5 => ⟨S1x2048, .f32⟩
  | 6 => ⟨S2048, .f32⟩
  | 7 => ⟨S2048x1x1, .f32⟩
  | 8 => ⟨S2048x1x1, .f32⟩
  | 9 => ⟨S2048x2x1, .f32⟩
  | 10 => ⟨S4096, .f32⟩
  | 11 => ⟨S2048x1x1, .f32⟩
  | 12 => ⟨S_, .f32⟩
  | 13 => ⟨S2048x1x1, .f32⟩
  | 14 => ⟨S2048x2x1, .f32⟩
  | 15 => ⟨S4096, .f32⟩
  | 16 => ⟨S2048x1x1, .f32⟩
  | 17 => ⟨S2048x2x1, .f32⟩
  | 18 => ⟨S4096, .f32⟩
  | 19 => ⟨S1x2048, .f32⟩
  | 20 => ⟨S2048, .f32⟩
  | 21 => ⟨S1024x1x2, .f32⟩
  | 22 => ⟨S1024x1x2, .f32⟩
  | 23 => ⟨S1024x2x2, .f32⟩
  | 24 => ⟨S4096, .f32⟩
  | 25 => ⟨S1024x1x2, .f32⟩
  | 26 => ⟨S_, .f32⟩
  | 27 => ⟨S1024x1x2, .f32⟩
  | 28 => ⟨S1024x2x2, .f32⟩
  | 29 => ⟨S4096, .f32⟩
  | 30 => ⟨S1024x1x2, .f32⟩
  | 31 => ⟨S1024x2x2, .f32⟩
  | 32 => ⟨S4096, .f32⟩
  | 33 => ⟨S1x2048, .f32⟩
  | 34 => ⟨S2048, .f32⟩
  | 35 => ⟨S512x1x4, .f32⟩
  | 36 => ⟨S512x1x4, .f32⟩
  | 37 => ⟨S512x2x4, .f32⟩
  | 38 => ⟨S4096, .f32⟩
  | 39 => ⟨S512x1x4, .f32⟩
  | 40 => ⟨S_, .f32⟩
  | 41 => ⟨S512x1x4, .f32⟩
  | 42 => ⟨S512x2x4, .f32⟩
  | 43 => ⟨S4096, .f32⟩
  | 44 => ⟨S512x1x4, .f32⟩
  | 45 => ⟨S512x2x4, .f32⟩
  | 46 => ⟨S4096, .f32⟩
  | 47 => ⟨S1x2048, .f32⟩
  | 48 => ⟨S2048, .f32⟩
  | 49 => ⟨S256x1x8, .f32⟩
  | 50 => ⟨S256x1x8, .f32⟩
  | 51 => ⟨S256x2x8, .f32⟩
  | 52 => ⟨S4096, .f32⟩
  | 53 => ⟨S256x1x8, .f32⟩
  | 54 => ⟨S_, .f32⟩
  | 55 => ⟨S256x1x8, .f32⟩
  | 56 => ⟨S256x2x8, .f32⟩
  | 57 => ⟨S4096, .f32⟩
  | 58 => ⟨S256x1x8, .f32⟩
  | 59 => ⟨S256x2x8, .f32⟩
  | 60 => ⟨S4096, .f32⟩
  | 61 => ⟨S1x2048, .f32⟩
  | 62 => ⟨S2048, .f32⟩
  | 63 => ⟨S128x1x16, .f32⟩
  | 64 => ⟨S128x1x16, .f32⟩
  | 65 => ⟨S128x2x16, .f32⟩
  | 66 => ⟨S4096, .f32⟩
  | 67 => ⟨S128x1x16, .f32⟩
  | 68 => ⟨S_, .f32⟩
  | 69 => ⟨S128x1x16, .f32⟩
  | 70 => ⟨S128x2x16, .f32⟩
  | 71 => ⟨S4096, .f32⟩
  | 72 => ⟨S128x1x16, .f32⟩
  | 73 => ⟨S128x2x16, .f32⟩
  | 74 => ⟨S4096, .f32⟩
  | 75 => ⟨S1x2048, .f32⟩
  | 76 => ⟨S2048, .f32⟩
  | 77 => ⟨S64x1x32, .f32⟩
  | 78 => ⟨S64x1x32, .f32⟩
  | 79 => ⟨S64x2x32, .f32⟩
  | 80 => ⟨S4096, .f32⟩
  | 81 => ⟨S64x1x32, .f32⟩
  | 82 => ⟨S_, .f32⟩
  | 83 => ⟨S64x1x32, .f32⟩
  | 84 => ⟨S64x2x32, .f32⟩
  | 85 => ⟨S4096, .f32⟩
  | 86 => ⟨S64x1x32, .f32⟩
  | 87 => ⟨S64x2x32, .f32⟩
  | 88 => ⟨S4096, .f32⟩
  | 89 => ⟨S1x2048, .f32⟩
  | 90 => ⟨S2048, .f32⟩
  | 91 => ⟨S32x1x64, .f32⟩
  | 92 => ⟨S32x1x64, .f32⟩
  | 93 => ⟨S32x2x64, .f32⟩
  | 94 => ⟨S4096, .f32⟩
  | 95 => ⟨S32x1x64, .f32⟩
  | 96 => ⟨S_, .f32⟩
  | 97 => ⟨S32x1x64, .f32⟩
  | 98 => ⟨S32x2x64, .f32⟩
  | 99 => ⟨S4096, .f32⟩
  | 100 => ⟨S32x1x64, .f32⟩
  | 101 => ⟨S32x2x64, .f32⟩
  | 102 => ⟨S4096, .f32⟩
  | 103 => ⟨S1x2048, .f32⟩
  | 104 => ⟨S2048, .f32⟩
  | 105 => ⟨S16x1x128, .f32⟩
  | 106 => ⟨S16x1x128, .f32⟩
  | 107 => ⟨S16x2x128, .f32⟩
  | 108 => ⟨S4096, .f32⟩
  | 109 => ⟨S16x1x128, .f32⟩
  | 110 => ⟨S_, .f32⟩
  | 111 => ⟨S16x1x128, .f32⟩
  | 112 => ⟨S16x2x128, .f32⟩
  | 113 => ⟨S4096, .f32⟩
  | 114 => ⟨S16x1x128, .f32⟩
  | 115 => ⟨S16x2x128, .f32⟩
  | 116 => ⟨S4096, .f32⟩
  | 117 => ⟨S1x2048, .f32⟩
  | 118 => ⟨S2048, .f32⟩
  | 119 => ⟨S8x1x256, .f32⟩
  | 120 => ⟨S8x1x256, .f32⟩
  | 121 => ⟨S8x2x256, .f32⟩
  | 122 => ⟨S4096, .f32⟩
  | 123 => ⟨S8x1x256, .f32⟩
  | 124 => ⟨S_, .f32⟩
  | 125 => ⟨S8x1x256, .f32⟩
  | 126 => ⟨S8x2x256, .f32⟩
  | 127 => ⟨S4096, .f32⟩
  | _ => ⟨S8192x2048, .f32⟩

abbrev hbmTy0_1 (i : Nat) : BufTy := match i % 128 with
  | 0 => ⟨S8x1x256, .f32⟩
  | 1 => ⟨S8x2x256, .f32⟩
  | 2 => ⟨S4096, .f32⟩
  | 3 => ⟨S1x2048, .f32⟩
  | 4 => ⟨S2048, .f32⟩
  | 5 => ⟨S4x1x512, .f32⟩
  | 6 => ⟨S4x1x512, .f32⟩
  | 7 => ⟨S4x2x512, .f32⟩
  | 8 => ⟨S4096, .f32⟩
  | 9 => ⟨S4x1x512, .f32⟩
  | 10 => ⟨S_, .f32⟩
  | 11 => ⟨S4x1x512, .f32⟩
  | 12 => ⟨S4x2x512, .f32⟩
  | 13 => ⟨S4096, .f32⟩
  | 14 => ⟨S4x1x512, .f32⟩
  | 15 => ⟨S4x2x512, .f32⟩
  | 16 => ⟨S4096, .f32⟩
  | 17 => ⟨S1x2048, .f32⟩
  | 18 => ⟨S2048, .f32⟩
  | 19 => ⟨S2x1x1024, .f32⟩
  | 20 => ⟨S2x1x1024, .f32⟩
  | 21 => ⟨S2x2x1024, .f32⟩
  | 22 => ⟨S4096, .f32⟩
  | 23 => ⟨S2x1x1024, .f32⟩
  | 24 => ⟨S_, .f32⟩
  | 25 => ⟨S2x1x1024, .f32⟩
  | 26 => ⟨S2x2x1024, .f32⟩
  | 27 => ⟨S4096, .f32⟩
  | 28 => ⟨S2x1x1024, .f32⟩
  | 29 => ⟨S2x2x1024, .f32⟩
  | 30 => ⟨S4096, .f32⟩
  | 31 => ⟨S1x2048, .f32⟩
  | 32 => ⟨S2048, .f32⟩
  | 33 => ⟨S1x1x2048, .f32⟩
  | 34 => ⟨S1x1x2048, .f32⟩
  | 35 => ⟨S1x2x2048, .f32⟩
  | 36 => ⟨S4096, .f32⟩
  | 37 => ⟨S1x1x2048, .f32⟩
  | 38 => ⟨S_, .f32⟩
  | 39 => ⟨S1x1x2048, .f32⟩
  | 40 => ⟨S1x2x2048, .f32⟩
  | 41 => ⟨S4096, .f32⟩
  | 42 => ⟨S1x1x2048, .f32⟩
  | 43 => ⟨S1x2x2048, .f32⟩
  | 44 => ⟨S4096, .f32⟩
  | 45 => ⟨S_, .f32⟩
  | 46 => ⟨S256x16, .f32⟩
  | 47 => ⟨S256x8, .f32⟩
  | 48 => ⟨S_, .i32⟩
  | 49 => ⟨S1, .i32⟩
  | 50 => ⟨S256x16, .f32⟩
  | 51 => ⟨S4096, .f32⟩
  | 52 => ⟨S_, .f32⟩
  | 53 => ⟨S8, .f32⟩
  | 54 => ⟨S_, .f32⟩
  | 55 => ⟨S8, .f32⟩
  | 56 => ⟨S16, .f32⟩
  | 57 => ⟨S1x16, .f32⟩
  | 58 => ⟨S256x16, .f32⟩
  | 59 => ⟨S4096, .f32⟩
  | 60 => ⟨S_, .f32⟩
  | 61 => ⟨S4096, .f32⟩
  | 62 => ⟨S4096x1, .f32⟩
  | 63 => ⟨S4096x1, .f32⟩
  | 64 => ⟨S4096x1, .f32⟩
  | 65 => ⟨S4096x1, .f32⟩
  | 66 => ⟨S4096x1, .f32⟩
  | 67 => ⟨S4096x1, .f32⟩
  | 68 => ⟨S4096x1, .f32⟩
  | 69 => ⟨S4096x1, .f32⟩
  | 70 => ⟨S4096x1, .f32⟩
  | 71 => ⟨S4096x1, .f32⟩
  | 72 => ⟨S4096x1, .f32⟩
  | 73 => ⟨S4096x1, .f32⟩
  | 74 => ⟨S4096x1, .f32⟩
  | 75 => ⟨S4096x1, .f32⟩
  | 76 => ⟨S4096x1, .f32⟩
  | 77 => ⟨S4096x1, .f32⟩
  | 78 => ⟨S4096x1, .f32⟩
  | 79 => ⟨S4096x1, .f32⟩
  | 80 => ⟨S4096x1, .f32⟩
  | 81 => ⟨S4096x1, .f32⟩
  | 82 => ⟨S4096x1, .f32⟩
  | 83 => ⟨S4096x1, .f32⟩
  | 84 => ⟨S4096x1, .f32⟩
  | 85 => ⟨S4096x1, .f32⟩
  | 86 => ⟨S4096x1, .f32⟩
  | 87 => ⟨S4096x1, .f32⟩
  | 88 => ⟨S4096x1, .f32⟩
  | 89 => ⟨S4096x1, .f32⟩
  | 90 => ⟨S4096x1, .f32⟩
  | 91 => ⟨S4096x1, .f32⟩
  | 92 => ⟨S4096x1, .f32⟩
  | 93 => ⟨S4096x1, .f32⟩
  | 94 => ⟨S4096x1, .f32⟩
  | 95 => ⟨S4096x1, .f32⟩
  | 96 => ⟨S4096x1, .f32⟩
  | 97 => ⟨S4096x1, .f32⟩
  | 98 => ⟨S4096x1, .f32⟩
  | 99 => ⟨S4096x1, .f32⟩
  | 100 => ⟨S4096x1, .f32⟩
  | 101 => ⟨S4096x1, .f32⟩
  | 102 => ⟨S4096x16, .f32⟩
  | 103 => ⟨S4096x16, .f32⟩
  | 104 => ⟨S4096x8, .f32⟩
  | 105 => ⟨S4096x40, .f32⟩
  | 106 => ⟨S256x256, .i32⟩
  | 107 => ⟨S256x256, .i32⟩
  | 108 => ⟨S_, .i32⟩
  | 109 => ⟨S256x256, .i32⟩
  | 110 => ⟨S256x256, .i32⟩
  | 111 => ⟨S256x256, .i1⟩
  | 112 => ⟨S256x256, .f32⟩
  | 113 => ⟨S1x256x1x256, .f32⟩
  | 114 => ⟨S16x256x1x256, .f32⟩
  | 115 => ⟨S4096x256, .f32⟩
  | 116 => ⟨S1x2048, .f32⟩
  | 117 => ⟨S2048, .f32⟩
  | 118 => ⟨S2048x1x1, .f32⟩
  | 119 => ⟨S2048x1x1, .f32⟩
  | 120 => ⟨S2048x2x1, .f32⟩
  | 121 => ⟨S4096x1, .f32⟩
  | 122 => ⟨S2048x1x1, .f32⟩
  | 123 => ⟨S_, .f32⟩
  | 124 => ⟨S2048x1x1, .f32⟩
  | 125 => ⟨S2048x2x1, .f32⟩
  | 126 => ⟨S4096x1, .f32⟩
  | 127 => ⟨S2048x1x1, .f32⟩
  | _ => ⟨S8192x2048, .f32⟩

abbrev hbmTy0_2 (i : Nat) : BufTy := match i % 128 with
  | 0 => ⟨S2048x2x1, .f32⟩
  | 1 => ⟨S4096x1, .f32⟩
  | 2 => ⟨S4095x256, .f32⟩
  | 3 => ⟨S1x256, .f32⟩
  | 4 => ⟨S4096x256, .f32⟩
  | 5 => ⟨S1x256, .f32⟩
  | 6 => ⟨S4095x256, .f32⟩
  | 7 => ⟨S4096x256, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S1x2048, .f32⟩
  | 17 => ⟨S2048, .f32⟩
  | 18 => ⟨S1024x1x2, .f32⟩
  | 19 => ⟨S1024x1x2, .f32⟩
  | 20 => ⟨S1024x2x2, .f32⟩
  | 21 => ⟨S4096x1, .f32⟩
  | 22 => ⟨S1024x1x2, .f32⟩
  | 23 => ⟨S_, .f32⟩
  | 24 => ⟨S1024x1x2, .f32⟩
  | 25 => ⟨S1024x2x2, .f32⟩
  | 26 => ⟨S4096x1, .f32⟩
  | 27 => ⟨S1024x1x2, .f32⟩
  | 28 => ⟨S1024x2x2, .f32⟩
  | 29 => ⟨S4096x1, .f32⟩
  | 30 => ⟨S4094x256, .f32⟩
  | 31 => ⟨S2x256, .f32⟩
  | 32 => ⟨S4096x256, .f32⟩
  | 33 => ⟨S2x256, .f32⟩
  | 34 => ⟨S4094x256, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S1x2048, .f32⟩
  | 45 => ⟨S2048, .f32⟩
  | 46 => ⟨S512x1x4, .f32⟩
  | 47 => ⟨S512x1x4, .f32⟩
  | 48 => ⟨S512x2x4, .f32⟩
  | 49 => ⟨S4096x1, .f32⟩
  | 50 => ⟨S512x1x4, .f32⟩
  | 51 => ⟨S_, .f32⟩
  | 52 => ⟨S512x1x4, .f32⟩
  | 53 => ⟨S512x2x4, .f32⟩
  | 54 => ⟨S4096x1, .f32⟩
  | 55 => ⟨S512x1x4, .f32⟩
  | 56 => ⟨S512x2x4, .f32⟩
  | 57 => ⟨S4096x1, .f32⟩
  | 58 => ⟨S4092x256, .f32⟩
  | 59 => ⟨S4x256, .f32⟩
  | 60 => ⟨S4096x256, .f32⟩
  | 61 => ⟨S4x256, .f32⟩
  | 62 => ⟨S4092x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S1x2048, .f32⟩
  | 73 => ⟨S2048, .f32⟩
  | 74 => ⟨S256x1x8, .f32⟩
  | 75 => ⟨S256x1x8, .f32⟩
  | 76 => ⟨S256x2x8, .f32⟩
  | 77 => ⟨S4096x1, .f32⟩
  | 78 => ⟨S256x1x8, .f32⟩
  | 79 => ⟨S_, .f32⟩
  | 80 => ⟨S256x1x8, .f32⟩
  | 81 => ⟨S256x2x8, .f32⟩
  | 82 => ⟨S4096x1, .f32⟩
  | 83 => ⟨S256x1x8, .f32⟩
  | 84 => ⟨S256x2x8, .f32⟩
  | 85 => ⟨S4096x1, .f32⟩
  | 86 => ⟨S4088x256, .f32⟩
  | 87 => ⟨S8x256, .f32⟩
  | 88 => ⟨S4096x256, .f32⟩
  | 89 => ⟨S8x256, .f32⟩
  | 90 => ⟨S4088x256, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S1x2048, .f32⟩
  | 101 => ⟨S2048, .f32⟩
  | 102 => ⟨S128x1x16, .f32⟩
  | 103 => ⟨S128x1x16, .f32⟩
  | 104 => ⟨S128x2x16, .f32⟩
  | 105 => ⟨S4096x1, .f32⟩
  | 106 => ⟨S128x1x16, .f32⟩
  | 107 => ⟨S_, .f32⟩
  | 108 => ⟨S128x1x16, .f32⟩
  | 109 => ⟨S128x2x16, .f32⟩
  | 110 => ⟨S4096x1, .f32⟩
  | 111 => ⟨S128x1x16, .f32⟩
  | 112 => ⟨S128x2x16, .f32⟩
  | 113 => ⟨S4096x1, .f32⟩
  | 114 => ⟨S4080x256, .f32⟩
  | 115 => ⟨S16x256, .f32⟩
  | 116 => ⟨S4096x256, .f32⟩
  | 117 => ⟨S16x256, .f32⟩
  | 118 => ⟨S4080x256, .f32⟩
  | 119 => ⟨S4096x256, .f32⟩
  | 120 => ⟨S4096x256, .f32⟩
  | 121 => ⟨S4096x256, .f32⟩
  | 122 => ⟨S4096x256, .f32⟩
  | 123 => ⟨S4096x256, .f32⟩
  | 124 => ⟨S4096x256, .f32⟩
  | 125 => ⟨S4096x256, .f32⟩
  | 126 => ⟨S4096x256, .f32⟩
  | 127 => ⟨S4096x256, .f32⟩
  | _ => ⟨S8192x2048, .f32⟩

abbrev hbmTy0_3 (i : Nat) : BufTy := match i % 128 with
  | 0 => ⟨S1x2048, .f32⟩
  | 1 => ⟨S2048, .f32⟩
  | 2 => ⟨S64x1x32, .f32⟩
  | 3 => ⟨S64x1x32, .f32⟩
  | 4 => ⟨S64x2x32, .f32⟩
  | 5 => ⟨S4096x1, .f32⟩
  | 6 => ⟨S64x1x32, .f32⟩
  | 7 => ⟨S_, .f32⟩
  | 8 => ⟨S64x1x32, .f32⟩
  | 9 => ⟨S64x2x32, .f32⟩
  | 10 => ⟨S4096x1, .f32⟩
  | 11 => ⟨S64x1x32, .f32⟩
  | 12 => ⟨S64x2x32, .f32⟩
  | 13 => ⟨S4096x1, .f32⟩
  | 14 => ⟨S4064x256, .f32⟩
  | 15 => ⟨S32x256, .f32⟩
  | 16 => ⟨S4096x256, .f32⟩
  | 17 => ⟨S32x256, .f32⟩
  | 18 => ⟨S4064x256, .f32⟩
  | 19 => ⟨S4096x256, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | _ => ⟨S8192x2048, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S4096x40, .f32⟩
  | .local _ .vmem, ⟨3, _⟩ => ⟨S4096x256, .f32⟩
  | .local _ .vmem, ⟨4, _⟩ => ⟨S8192x256, .f32⟩
  | .local _ .vmem, ⟨5, _⟩ => ⟨S8192x256, .f32⟩
  | .local _ .vmem, ⟨6, _⟩ => ⟨S4096x256, .f32⟩
  | .local _ .vmem, ⟨7, _⟩ => ⟨S4096x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_cst_0 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_v28 : Ref sig .tc := ⟨.hbm, 35, rfl⟩
abbrev main_call0_v29 : Ref sig .tc := ⟨.hbm, 36, rfl⟩
abbrev main_call0_v30 : Ref sig .tc := ⟨.hbm, 37, rfl⟩
abbrev main_call0_v31 : Ref sig .tc := ⟨.hbm, 38, rfl⟩
abbrev main_call0_v32 : Ref sig .tc := ⟨.hbm, 39, rfl⟩
abbrev main_call0_cst_1 : Ref sig .tc := ⟨.hbm, 40, rfl⟩
abbrev main_call0_v33 : Ref sig .tc := ⟨.hbm, 41, rfl⟩
abbrev main_call0_v34 : Ref sig .tc := ⟨.hbm, 42, rfl⟩
abbrev main_call0_v35 : Ref sig .tc := ⟨.hbm, 43, rfl⟩
abbrev main_call0_v36 : Ref sig .tc := ⟨.hbm, 44, rfl⟩
abbrev main_call0_v37 : Ref sig .tc := ⟨.hbm, 45, rfl⟩
abbrev main_call0_v38 : Ref sig .tc := ⟨.hbm, 46, rfl⟩
abbrev main_call0_v39 : Ref sig .tc := ⟨.hbm, 47, rfl⟩
abbrev main_call0_v40 : Ref sig .tc := ⟨.hbm, 48, rfl⟩
abbrev main_call0_v41 : Ref sig .tc := ⟨.hbm, 49, rfl⟩
abbrev main_call0_v42 : Ref sig .tc := ⟨.hbm, 50, rfl⟩
abbrev main_call0_v43 : Ref sig .tc := ⟨.hbm, 51, rfl⟩
abbrev main_call0_v44 : Ref sig .tc := ⟨.hbm, 52, rfl⟩
abbrev main_call0_v45 : Ref sig .tc := ⟨.hbm, 53, rfl⟩
abbrev main_call0_cst_2 : Ref sig .tc := ⟨.hbm, 54, rfl⟩
abbrev main_call0_v46 : Ref sig .tc := ⟨.hbm, 55, rfl⟩
abbrev main_call0_v47 : Ref sig .tc := ⟨.hbm, 56, rfl⟩
abbrev main_call0_v48 : Ref sig .tc := ⟨.hbm, 57, rfl⟩
abbrev main_call0_v49 : Ref sig .tc := ⟨.hbm, 58, rfl⟩
abbrev main_call0_v50 : Ref sig .tc := ⟨.hbm, 59, rfl⟩
abbrev main_call0_v51 : Ref sig .tc := ⟨.hbm, 60, rfl⟩
abbrev main_call0_v52 : Ref sig .tc := ⟨.hbm, 61, rfl⟩
abbrev main_call0_v53 : Ref sig .tc := ⟨.hbm, 62, rfl⟩
abbrev main_call0_v54 : Ref sig .tc := ⟨.hbm, 63, rfl⟩
abbrev main_call0_v55 : Ref sig .tc := ⟨.hbm, 64, rfl⟩
abbrev main_call0_v56 : Ref sig .tc := ⟨.hbm, 65, rfl⟩
abbrev main_call0_v57 : Ref sig .tc := ⟨.hbm, 66, rfl⟩
abbrev main_call0_v58 : Ref sig .tc := ⟨.hbm, 67, rfl⟩
abbrev main_call0_cst_3 : Ref sig .tc := ⟨.hbm, 68, rfl⟩
abbrev main_call0_v59 : Ref sig .tc := ⟨.hbm, 69, rfl⟩
abbrev main_call0_v60 : Ref sig .tc := ⟨.hbm, 70, rfl⟩
abbrev main_call0_v61 : Ref sig .tc := ⟨.hbm, 71, rfl⟩
abbrev main_call0_v62 : Ref sig .tc := ⟨.hbm, 72, rfl⟩
abbrev main_call0_v63 : Ref sig .tc := ⟨.hbm, 73, rfl⟩
abbrev main_call0_v64 : Ref sig .tc := ⟨.hbm, 74, rfl⟩
abbrev main_call0_v65 : Ref sig .tc := ⟨.hbm, 75, rfl⟩
abbrev main_call0_v66 : Ref sig .tc := ⟨.hbm, 76, rfl⟩
abbrev main_call0_v67 : Ref sig .tc := ⟨.hbm, 77, rfl⟩
abbrev main_call0_v68 : Ref sig .tc := ⟨.hbm, 78, rfl⟩
abbrev main_call0_v69 : Ref sig .tc := ⟨.hbm, 79, rfl⟩
abbrev main_call0_v70 : Ref sig .tc := ⟨.hbm, 80, rfl⟩
abbrev main_call0_v71 : Ref sig .tc := ⟨.hbm, 81, rfl⟩
abbrev main_call0_cst_4 : Ref sig .tc := ⟨.hbm, 82, rfl⟩
abbrev main_call0_v72 : Ref sig .tc := ⟨.hbm, 83, rfl⟩
abbrev main_call0_v73 : Ref sig .tc := ⟨.hbm, 84, rfl⟩
abbrev main_call0_v74 : Ref sig .tc := ⟨.hbm, 85, rfl⟩
abbrev main_call0_v75 : Ref sig .tc := ⟨.hbm, 86, rfl⟩
abbrev main_call0_v76 : Ref sig .tc := ⟨.hbm, 87, rfl⟩
abbrev main_call0_v77 : Ref sig .tc := ⟨.hbm, 88, rfl⟩
abbrev main_call0_v78 : Ref sig .tc := ⟨.hbm, 89, rfl⟩
abbrev main_call0_v79 : Ref sig .tc := ⟨.hbm, 90, rfl⟩
abbrev main_call0_v80 : Ref sig .tc := ⟨.hbm, 91, rfl⟩
abbrev main_call0_v81 : Ref sig .tc := ⟨.hbm, 92, rfl⟩
abbrev main_call0_v82 : Ref sig .tc := ⟨.hbm, 93, rfl⟩
abbrev main_call0_v83 : Ref sig .tc := ⟨.hbm, 94, rfl⟩
abbrev main_call0_v84 : Ref sig .tc := ⟨.hbm, 95, rfl⟩
abbrev main_call0_cst_5 : Ref sig .tc := ⟨.hbm, 96, rfl⟩
abbrev main_call0_v85 : Ref sig .tc := ⟨.hbm, 97, rfl⟩
abbrev main_call0_v86 : Ref sig .tc := ⟨.hbm, 98, rfl⟩
abbrev main_call0_v87 : Ref sig .tc := ⟨.hbm, 99, rfl⟩
abbrev main_call0_v88 : Ref sig .tc := ⟨.hbm, 100, rfl⟩
abbrev main_call0_v89 : Ref sig .tc := ⟨.hbm, 101, rfl⟩
abbrev main_call0_v90 : Ref sig .tc := ⟨.hbm, 102, rfl⟩
abbrev main_call0_v91 : Ref sig .tc := ⟨.hbm, 103, rfl⟩
abbrev main_call0_v92 : Ref sig .tc := ⟨.hbm, 104, rfl⟩
abbrev main_call0_v93 : Ref sig .tc := ⟨.hbm, 105, rfl⟩
abbrev main_call0_v94 : Ref sig .tc := ⟨.hbm, 106, rfl⟩
abbrev main_call0_v95 : Ref sig .tc := ⟨.hbm, 107, rfl⟩
abbrev main_call0_v96 : Ref sig .tc := ⟨.hbm, 108, rfl⟩
abbrev main_call0_v97 : Ref sig .tc := ⟨.hbm, 109, rfl⟩
abbrev main_call0_cst_6 : Ref sig .tc := ⟨.hbm, 110, rfl⟩
abbrev main_call0_v98 : Ref sig .tc := ⟨.hbm, 111, rfl⟩
abbrev main_call0_v99 : Ref sig .tc := ⟨.hbm, 112, rfl⟩
abbrev main_call0_v100 : Ref sig .tc := ⟨.hbm, 113, rfl⟩
abbrev main_call0_v101 : Ref sig .tc := ⟨.hbm, 114, rfl⟩
abbrev main_call0_v102 : Ref sig .tc := ⟨.hbm, 115, rfl⟩
abbrev main_call0_v103 : Ref sig .tc := ⟨.hbm, 116, rfl⟩
abbrev main_call0_v104 : Ref sig .tc := ⟨.hbm, 117, rfl⟩
abbrev main_call0_v105 : Ref sig .tc := ⟨.hbm, 118, rfl⟩
abbrev main_call0_v106 : Ref sig .tc := ⟨.hbm, 119, rfl⟩
abbrev main_call0_v107 : Ref sig .tc := ⟨.hbm, 120, rfl⟩
abbrev main_call0_v108 : Ref sig .tc := ⟨.hbm, 121, rfl⟩
abbrev main_call0_v109 : Ref sig .tc := ⟨.hbm, 122, rfl⟩
abbrev main_call0_v110 : Ref sig .tc := ⟨.hbm, 123, rfl⟩
abbrev main_call0_cst_7 : Ref sig .tc := ⟨.hbm, 124, rfl⟩
abbrev main_call0_v111 : Ref sig .tc := ⟨.hbm, 125, rfl⟩
abbrev main_call0_v112 : Ref sig .tc := ⟨.hbm, 126, rfl⟩
abbrev main_call0_v113 : Ref sig .tc := ⟨.hbm, 127, rfl⟩
abbrev main_call0_v114 : Ref sig .tc := ⟨.hbm, 128, rfl⟩
abbrev main_call0_v115 : Ref sig .tc := ⟨.hbm, 129, rfl⟩
abbrev main_call0_v116 : Ref sig .tc := ⟨.hbm, 130, rfl⟩
abbrev main_call0_v117 : Ref sig .tc := ⟨.hbm, 131, rfl⟩
abbrev main_call0_v118 : Ref sig .tc := ⟨.hbm, 132, rfl⟩
abbrev main_call0_v119 : Ref sig .tc := ⟨.hbm, 133, rfl⟩
abbrev main_call0_v120 : Ref sig .tc := ⟨.hbm, 134, rfl⟩
abbrev main_call0_v121 : Ref sig .tc := ⟨.hbm, 135, rfl⟩
abbrev main_call0_v122 : Ref sig .tc := ⟨.hbm, 136, rfl⟩
abbrev main_call0_v123 : Ref sig .tc := ⟨.hbm, 137, rfl⟩
abbrev main_call0_cst_8 : Ref sig .tc := ⟨.hbm, 138, rfl⟩
abbrev main_call0_v124 : Ref sig .tc := ⟨.hbm, 139, rfl⟩
abbrev main_call0_v125 : Ref sig .tc := ⟨.hbm, 140, rfl⟩
abbrev main_call0_v126 : Ref sig .tc := ⟨.hbm, 141, rfl⟩
abbrev main_call0_v127 : Ref sig .tc := ⟨.hbm, 142, rfl⟩
abbrev main_call0_v128 : Ref sig .tc := ⟨.hbm, 143, rfl⟩
abbrev main_call0_v129 : Ref sig .tc := ⟨.hbm, 144, rfl⟩
abbrev main_call0_v130 : Ref sig .tc := ⟨.hbm, 145, rfl⟩
abbrev main_call0_v131 : Ref sig .tc := ⟨.hbm, 146, rfl⟩
abbrev main_call0_v132 : Ref sig .tc := ⟨.hbm, 147, rfl⟩
abbrev main_call0_v133 : Ref sig .tc := ⟨.hbm, 148, rfl⟩
abbrev main_call0_v134 : Ref sig .tc := ⟨.hbm, 149, rfl⟩
abbrev main_call0_v135 : Ref sig .tc := ⟨.hbm, 150, rfl⟩
abbrev main_call0_v136 : Ref sig .tc := ⟨.hbm, 151, rfl⟩
abbrev main_call0_cst_9 : Ref sig .tc := ⟨.hbm, 152, rfl⟩
abbrev main_call0_v137 : Ref sig .tc := ⟨.hbm, 153, rfl⟩
abbrev main_call0_v138 : Ref sig .tc := ⟨.hbm, 154, rfl⟩
abbrev main_call0_v139 : Ref sig .tc := ⟨.hbm, 155, rfl⟩
abbrev main_call0_v140 : Ref sig .tc := ⟨.hbm, 156, rfl⟩
abbrev main_call0_v141 : Ref sig .tc := ⟨.hbm, 157, rfl⟩
abbrev main_call0_v142 : Ref sig .tc := ⟨.hbm, 158, rfl⟩
abbrev main_call0_v143 : Ref sig .tc := ⟨.hbm, 159, rfl⟩
abbrev main_call0_v144 : Ref sig .tc := ⟨.hbm, 160, rfl⟩
abbrev main_call0_v145 : Ref sig .tc := ⟨.hbm, 161, rfl⟩
abbrev main_call0_v146 : Ref sig .tc := ⟨.hbm, 162, rfl⟩
abbrev main_call0_v147 : Ref sig .tc := ⟨.hbm, 163, rfl⟩
abbrev main_call0_v148 : Ref sig .tc := ⟨.hbm, 164, rfl⟩
abbrev main_call0_v149 : Ref sig .tc := ⟨.hbm, 165, rfl⟩
abbrev main_call0_cst_10 : Ref sig .tc := ⟨.hbm, 166, rfl⟩
abbrev main_call0_v150 : Ref sig .tc := ⟨.hbm, 167, rfl⟩
abbrev main_call0_v151 : Ref sig .tc := ⟨.hbm, 168, rfl⟩
abbrev main_call0_v152 : Ref sig .tc := ⟨.hbm, 169, rfl⟩
abbrev main_call0_v153 : Ref sig .tc := ⟨.hbm, 170, rfl⟩
abbrev main_call0_v154 : Ref sig .tc := ⟨.hbm, 171, rfl⟩
abbrev main_call0_v155 : Ref sig .tc := ⟨.hbm, 172, rfl⟩
abbrev main_call0_cst_11 : Ref sig .tc := ⟨.hbm, 173, rfl⟩
abbrev main_call0_v156 : Ref sig .tc := ⟨.hbm, 174, rfl⟩
abbrev main_call0_v157 : Ref sig .tc := ⟨.hbm, 175, rfl⟩
abbrev main_call0_c : Ref sig .tc := ⟨.hbm, 176, rfl⟩
abbrev main_call0_v158 : Ref sig .tc := ⟨.hbm, 177, rfl⟩
abbrev main_call0_v159 : Ref sig .tc := ⟨.hbm, 178, rfl⟩
abbrev main_call0_v160 : Ref sig .tc := ⟨.hbm, 179, rfl⟩
abbrev main_call0_cst_12 : Ref sig .tc := ⟨.hbm, 180, rfl⟩
abbrev main_call0_v161 : Ref sig .tc := ⟨.hbm, 181, rfl⟩
abbrev main_call0_cst_13 : Ref sig .tc := ⟨.hbm, 182, rfl⟩
abbrev main_call0_v162 : Ref sig .tc := ⟨.hbm, 183, rfl⟩
abbrev main_call0_v163 : Ref sig .tc := ⟨.hbm, 184, rfl⟩
abbrev main_call0_v164 : Ref sig .tc := ⟨.hbm, 185, rfl⟩
abbrev main_call0_v165 : Ref sig .tc := ⟨.hbm, 186, rfl⟩
abbrev main_call0_v166 : Ref sig .tc := ⟨.hbm, 187, rfl⟩
abbrev main_call0_cst_14 : Ref sig .tc := ⟨.hbm, 188, rfl⟩
abbrev main_call0_v167 : Ref sig .tc := ⟨.hbm, 189, rfl⟩
abbrev main_call0_v168 : Ref sig .tc := ⟨.hbm, 190, rfl⟩
abbrev main_call0_v169 : Ref sig .tc := ⟨.hbm, 191, rfl⟩
abbrev main_call0_v170 : Ref sig .tc := ⟨.hbm, 192, rfl⟩
abbrev main_call0_v171 : Ref sig .tc := ⟨.hbm, 193, rfl⟩
abbrev main_call0_v172 : Ref sig .tc := ⟨.hbm, 194, rfl⟩
abbrev main_call0_v173 : Ref sig .tc := ⟨.hbm, 195, rfl⟩
abbrev main_call0_v174 : Ref sig .tc := ⟨.hbm, 196, rfl⟩
abbrev main_call0_v175 : Ref sig .tc := ⟨.hbm, 197, rfl⟩
abbrev main_call0_v176 : Ref sig .tc := ⟨.hbm, 198, rfl⟩
abbrev main_call0_v177 : Ref sig .tc := ⟨.hbm, 199, rfl⟩
abbrev main_call0_v178 : Ref sig .tc := ⟨.hbm, 200, rfl⟩
abbrev main_call0_v179 : Ref sig .tc := ⟨.hbm, 201, rfl⟩
abbrev main_call0_v180 : Ref sig .tc := ⟨.hbm, 202, rfl⟩
abbrev main_call0_v181 : Ref sig .tc := ⟨.hbm, 203, rfl⟩
abbrev main_call0_v182 : Ref sig .tc := ⟨.hbm, 204, rfl⟩
abbrev main_call0_v183 : Ref sig .tc := ⟨.hbm, 205, rfl⟩
abbrev main_call0_v184 : Ref sig .tc := ⟨.hbm, 206, rfl⟩
abbrev main_call0_v185 : Ref sig .tc := ⟨.hbm, 207, rfl⟩
abbrev main_call0_v186 : Ref sig .tc := ⟨.hbm, 208, rfl⟩
abbrev main_call0_v187 : Ref sig .tc := ⟨.hbm, 209, rfl⟩
abbrev main_call0_v188 : Ref sig .tc := ⟨.hbm, 210, rfl⟩
abbrev main_call0_v189 : Ref sig .tc := ⟨.hbm, 211, rfl⟩
abbrev main_call0_v190 : Ref sig .tc := ⟨.hbm, 212, rfl⟩
abbrev main_call0_v191 : Ref sig .tc := ⟨.hbm, 213, rfl⟩
abbrev main_call0_v192 : Ref sig .tc := ⟨.hbm, 214, rfl⟩
abbrev main_call0_v193 : Ref sig .tc := ⟨.hbm, 215, rfl⟩
abbrev main_call0_v194 : Ref sig .tc := ⟨.hbm, 216, rfl⟩
abbrev main_call0_v195 : Ref sig .tc := ⟨.hbm, 217, rfl⟩
abbrev main_call0_v196 : Ref sig .tc := ⟨.hbm, 218, rfl⟩
abbrev main_call0_v197 : Ref sig .tc := ⟨.hbm, 219, rfl⟩
abbrev main_call0_v198 : Ref sig .tc := ⟨.hbm, 220, rfl⟩
abbrev main_call0_v199 : Ref sig .tc := ⟨.hbm, 221, rfl⟩
abbrev main_call0_v200 : Ref sig .tc := ⟨.hbm, 222, rfl⟩
abbrev main_call0_v201 : Ref sig .tc := ⟨.hbm, 223, rfl⟩
abbrev main_call0_v202 : Ref sig .tc := ⟨.hbm, 224, rfl⟩
abbrev main_call0_v203 : Ref sig .tc := ⟨.hbm, 225, rfl⟩
abbrev main_call0_v204 : Ref sig .tc := ⟨.hbm, 226, rfl⟩
abbrev main_call0_v205 : Ref sig .tc := ⟨.hbm, 227, rfl⟩
abbrev main_call0_v206 : Ref sig .tc := ⟨.hbm, 228, rfl⟩
abbrev main_call0_v207 : Ref sig .tc := ⟨.hbm, 229, rfl⟩
abbrev main_call0_v208 : Ref sig .tc := ⟨.hbm, 230, rfl⟩
abbrev main_call0_v209 : Ref sig .tc := ⟨.hbm, 231, rfl⟩
abbrev main_call0_v210 : Ref sig .tc := ⟨.hbm, 232, rfl⟩
abbrev main_call0_v211 : Ref sig .tc := ⟨.hbm, 233, rfl⟩
abbrev main_call0_v212 : Ref sig .tc := ⟨.hbm, 234, rfl⟩
abbrev main_call0_v213 : Ref sig .tc := ⟨.hbm, 235, rfl⟩
abbrev main_call0_c_15 : Ref sig .tc := ⟨.hbm, 236, rfl⟩
abbrev main_call0_v214 : Ref sig .tc := ⟨.hbm, 237, rfl⟩
abbrev main_call0_v215 : Ref sig .tc := ⟨.hbm, 238, rfl⟩
abbrev main_call0_v216 : Ref sig .tc := ⟨.hbm, 239, rfl⟩
abbrev main_call0_v217 : Ref sig .tc := ⟨.hbm, 240, rfl⟩
abbrev main_call0_v218 : Ref sig .tc := ⟨.hbm, 241, rfl⟩
abbrev main_call0_v219 : Ref sig .tc := ⟨.hbm, 242, rfl⟩
abbrev main_call0_v220 : Ref sig .tc := ⟨.hbm, 243, rfl⟩
abbrev main_call0_v221 : Ref sig .tc := ⟨.hbm, 244, rfl⟩
abbrev main_call0_v222 : Ref sig .tc := ⟨.hbm, 245, rfl⟩
abbrev main_call0_v223 : Ref sig .tc := ⟨.hbm, 246, rfl⟩
abbrev main_call0_v224 : Ref sig .tc := ⟨.hbm, 247, rfl⟩
abbrev main_call0_v225 : Ref sig .tc := ⟨.hbm, 248, rfl⟩
abbrev main_call0_v226 : Ref sig .tc := ⟨.hbm, 249, rfl⟩
abbrev main_call0_v227 : Ref sig .tc := ⟨.hbm, 250, rfl⟩
abbrev main_call0_cst_16 : Ref sig .tc := ⟨.hbm, 251, rfl⟩
abbrev main_call0_v228 : Ref sig .tc := ⟨.hbm, 252, rfl⟩
abbrev main_call0_v229 : Ref sig .tc := ⟨.hbm, 253, rfl⟩
abbrev main_call0_v230 : Ref sig .tc := ⟨.hbm, 254, rfl⟩
abbrev main_call0_v231 : Ref sig .tc := ⟨.hbm, 255, rfl⟩
abbrev main_call0_v232 : Ref sig .tc := ⟨.hbm, 256, rfl⟩
abbrev main_call0_v233 : Ref sig .tc := ⟨.hbm, 257, rfl⟩
abbrev main_call0_v234 : Ref sig .tc := ⟨.hbm, 258, rfl⟩
abbrev main_call0_v235 : Ref sig .tc := ⟨.hbm, 259, rfl⟩
abbrev main_call0_v236 : Ref sig .tc := ⟨.hbm, 260, rfl⟩
abbrev main_call0_v237 : Ref sig .tc := ⟨.hbm, 261, rfl⟩
abbrev main_call0_v238 : Ref sig .tc := ⟨.hbm, 262, rfl⟩
abbrev main_call0_v239 : Ref sig .tc := ⟨.hbm, 263, rfl⟩
abbrev main_call0_v240 : Ref sig .tc := ⟨.hbm, 264, rfl⟩
abbrev main_call0_v241 : Ref sig .tc := ⟨.hbm, 265, rfl⟩
abbrev main_call0_v242 : Ref sig .tc := ⟨.hbm, 266, rfl⟩
abbrev main_call0_v243 : Ref sig .tc := ⟨.hbm, 267, rfl⟩
abbrev main_call0_v244 : Ref sig .tc := ⟨.hbm, 268, rfl⟩
abbrev main_call0_v245 : Ref sig .tc := ⟨.hbm, 269, rfl⟩
abbrev main_call0_v246 : Ref sig .tc := ⟨.hbm, 270, rfl⟩
abbrev main_call0_v247 : Ref sig .tc := ⟨.hbm, 271, rfl⟩
abbrev main_call0_v248 : Ref sig .tc := ⟨.hbm, 272, rfl⟩
abbrev main_call0_v249 : Ref sig .tc := ⟨.hbm, 273, rfl⟩
abbrev main_call0_v250 : Ref sig .tc := ⟨.hbm, 274, rfl⟩
abbrev main_call0_v251 : Ref sig .tc := ⟨.hbm, 275, rfl⟩
abbrev main_call0_v252 : Ref sig .tc := ⟨.hbm, 276, rfl⟩
abbrev main_call0_v253 : Ref sig .tc := ⟨.hbm, 277, rfl⟩
abbrev main_call0_v254 : Ref sig .tc := ⟨.hbm, 278, rfl⟩
abbrev main_call0_cst_17 : Ref sig .tc := ⟨.hbm, 279, rfl⟩
abbrev main_call0_v255 : Ref sig .tc := ⟨.hbm, 280, rfl⟩
abbrev main_call0_v256 : Ref sig .tc := ⟨.hbm, 281, rfl⟩
abbrev main_call0_v257 : Ref sig .tc := ⟨.hbm, 282, rfl⟩
abbrev main_call0_v258 : Ref sig .tc := ⟨.hbm, 283, rfl⟩
abbrev main_call0_v259 : Ref sig .tc := ⟨.hbm, 284, rfl⟩
abbrev main_call0_v260 : Ref sig .tc := ⟨.hbm, 285, rfl⟩
abbrev main_call0_v261 : Ref sig .tc := ⟨.hbm, 286, rfl⟩
abbrev main_call0_v262 : Ref sig .tc := ⟨.hbm, 287, rfl⟩
abbrev main_call0_v263 : Ref sig .tc := ⟨.hbm, 288, rfl⟩
abbrev main_call0_v264 : Ref sig .tc := ⟨.hbm, 289, rfl⟩
abbrev main_call0_v265 : Ref sig .tc := ⟨.hbm, 290, rfl⟩
abbrev main_call0_v266 : Ref sig .tc := ⟨.hbm, 291, rfl⟩
abbrev main_call0_v267 : Ref sig .tc := ⟨.hbm, 292, rfl⟩
abbrev main_call0_v268 : Ref sig .tc := ⟨.hbm, 293, rfl⟩
abbrev main_call0_v269 : Ref sig .tc := ⟨.hbm, 294, rfl⟩
abbrev main_call0_v270 : Ref sig .tc := ⟨.hbm, 295, rfl⟩
abbrev main_call0_v271 : Ref sig .tc := ⟨.hbm, 296, rfl⟩
abbrev main_call0_v272 : Ref sig .tc := ⟨.hbm, 297, rfl⟩
abbrev main_call0_v273 : Ref sig .tc := ⟨.hbm, 298, rfl⟩
abbrev main_call0_v274 : Ref sig .tc := ⟨.hbm, 299, rfl⟩
abbrev main_call0_v275 : Ref sig .tc := ⟨.hbm, 300, rfl⟩
abbrev main_call0_v276 : Ref sig .tc := ⟨.hbm, 301, rfl⟩
abbrev main_call0_v277 : Ref sig .tc := ⟨.hbm, 302, rfl⟩
abbrev main_call0_v278 : Ref sig .tc := ⟨.hbm, 303, rfl⟩
abbrev main_call0_v279 : Ref sig .tc := ⟨.hbm, 304, rfl⟩
abbrev main_call0_v280 : Ref sig .tc := ⟨.hbm, 305, rfl⟩
abbrev main_call0_v281 : Ref sig .tc := ⟨.hbm, 306, rfl⟩
abbrev main_call0_cst_18 : Ref sig .tc := ⟨.hbm, 307, rfl⟩
abbrev main_call0_v282 : Ref sig .tc := ⟨.hbm, 308, rfl⟩
abbrev main_call0_v283 : Ref sig .tc := ⟨.hbm, 309, rfl⟩
abbrev main_call0_v284 : Ref sig .tc := ⟨.hbm, 310, rfl⟩
abbrev main_call0_v285 : Ref sig .tc := ⟨.hbm, 311, rfl⟩
abbrev main_call0_v286 : Ref sig .tc := ⟨.hbm, 312, rfl⟩
abbrev main_call0_v287 : Ref sig .tc := ⟨.hbm, 313, rfl⟩
abbrev main_call0_v288 : Ref sig .tc := ⟨.hbm, 314, rfl⟩
abbrev main_call0_v289 : Ref sig .tc := ⟨.hbm, 315, rfl⟩
abbrev main_call0_v290 : Ref sig .tc := ⟨.hbm, 316, rfl⟩
abbrev main_call0_v291 : Ref sig .tc := ⟨.hbm, 317, rfl⟩
abbrev main_call0_v292 : Ref sig .tc := ⟨.hbm, 318, rfl⟩
abbrev main_call0_v293 : Ref sig .tc := ⟨.hbm, 319, rfl⟩
abbrev main_call0_v294 : Ref sig .tc := ⟨.hbm, 320, rfl⟩
abbrev main_call0_v295 : Ref sig .tc := ⟨.hbm, 321, rfl⟩
abbrev main_call0_v296 : Ref sig .tc := ⟨.hbm, 322, rfl⟩
abbrev main_call0_v297 : Ref sig .tc := ⟨.hbm, 323, rfl⟩
abbrev main_call0_v298 : Ref sig .tc := ⟨.hbm, 324, rfl⟩
abbrev main_call0_v299 : Ref sig .tc := ⟨.hbm, 325, rfl⟩
abbrev main_call0_v300 : Ref sig .tc := ⟨.hbm, 326, rfl⟩
abbrev main_call0_v301 : Ref sig .tc := ⟨.hbm, 327, rfl⟩
abbrev main_call0_v302 : Ref sig .tc := ⟨.hbm, 328, rfl⟩
abbrev main_call0_v303 : Ref sig .tc := ⟨.hbm, 329, rfl⟩
abbrev main_call0_v304 : Ref sig .tc := ⟨.hbm, 330, rfl⟩
abbrev main_call0_v305 : Ref sig .tc := ⟨.hbm, 331, rfl⟩
abbrev main_call0_v306 : Ref sig .tc := ⟨.hbm, 332, rfl⟩
abbrev main_call0_v307 : Ref sig .tc := ⟨.hbm, 333, rfl⟩
abbrev main_call0_v308 : Ref sig .tc := ⟨.hbm, 334, rfl⟩
abbrev main_call0_cst_19 : Ref sig .tc := ⟨.hbm, 335, rfl⟩
abbrev main_call0_v309 : Ref sig .tc := ⟨.hbm, 336, rfl⟩
abbrev main_call0_v310 : Ref sig .tc := ⟨.hbm, 337, rfl⟩
abbrev main_call0_v311 : Ref sig .tc := ⟨.hbm, 338, rfl⟩
abbrev main_call0_v312 : Ref sig .tc := ⟨.hbm, 339, rfl⟩
abbrev main_call0_v313 : Ref sig .tc := ⟨.hbm, 340, rfl⟩
abbrev main_call0_v314 : Ref sig .tc := ⟨.hbm, 341, rfl⟩
abbrev main_call0_v315 : Ref sig .tc := ⟨.hbm, 342, rfl⟩
abbrev main_call0_v316 : Ref sig .tc := ⟨.hbm, 343, rfl⟩
abbrev main_call0_v317 : Ref sig .tc := ⟨.hbm, 344, rfl⟩
abbrev main_call0_v318 : Ref sig .tc := ⟨.hbm, 345, rfl⟩
abbrev main_call0_v319 : Ref sig .tc := ⟨.hbm, 346, rfl⟩
abbrev main_call0_v320 : Ref sig .tc := ⟨.hbm, 347, rfl⟩
abbrev main_call0_v321 : Ref sig .tc := ⟨.hbm, 348, rfl⟩
abbrev main_call0_v322 : Ref sig .tc := ⟨.hbm, 349, rfl⟩
abbrev main_call0_v323 : Ref sig .tc := ⟨.hbm, 350, rfl⟩
abbrev main_call0_v324 : Ref sig .tc := ⟨.hbm, 351, rfl⟩
abbrev main_call0_v325 : Ref sig .tc := ⟨.hbm, 352, rfl⟩
abbrev main_call0_v326 : Ref sig .tc := ⟨.hbm, 353, rfl⟩
abbrev main_call0_v327 : Ref sig .tc := ⟨.hbm, 354, rfl⟩
abbrev main_call0_v328 : Ref sig .tc := ⟨.hbm, 355, rfl⟩
abbrev main_call0_v329 : Ref sig .tc := ⟨.hbm, 356, rfl⟩
abbrev main_call0_v330 : Ref sig .tc := ⟨.hbm, 357, rfl⟩
abbrev main_call0_v331 : Ref sig .tc := ⟨.hbm, 358, rfl⟩
abbrev main_call0_v332 : Ref sig .tc := ⟨.hbm, 359, rfl⟩
abbrev main_call0_v333 : Ref sig .tc := ⟨.hbm, 360, rfl⟩
abbrev main_call0_v334 : Ref sig .tc := ⟨.hbm, 361, rfl⟩
abbrev main_call0_v335 : Ref sig .tc := ⟨.hbm, 362, rfl⟩
abbrev main_call0_cst_20 : Ref sig .tc := ⟨.hbm, 363, rfl⟩
abbrev main_call0_v336 : Ref sig .tc := ⟨.hbm, 364, rfl⟩
abbrev main_call0_v337 : Ref sig .tc := ⟨.hbm, 365, rfl⟩
abbrev main_call0_v338 : Ref sig .tc := ⟨.hbm, 366, rfl⟩
abbrev main_call0_v339 : Ref sig .tc := ⟨.hbm, 367, rfl⟩
abbrev main_call0_v340 : Ref sig .tc := ⟨.hbm, 368, rfl⟩
abbrev main_call0_v341 : Ref sig .tc := ⟨.hbm, 369, rfl⟩
abbrev main_call0_v342 : Ref sig .tc := ⟨.hbm, 370, rfl⟩
abbrev main_call0_v343 : Ref sig .tc := ⟨.hbm, 371, rfl⟩
abbrev main_call0_v344 : Ref sig .tc := ⟨.hbm, 372, rfl⟩
abbrev main_call0_v345 : Ref sig .tc := ⟨.hbm, 373, rfl⟩
abbrev main_call0_v346 : Ref sig .tc := ⟨.hbm, 374, rfl⟩
abbrev main_call0_v347 : Ref sig .tc := ⟨.hbm, 375, rfl⟩
abbrev main_call0_v348 : Ref sig .tc := ⟨.hbm, 376, rfl⟩
abbrev main_call0_v349 : Ref sig .tc := ⟨.hbm, 377, rfl⟩
abbrev main_call0_v350 : Ref sig .tc := ⟨.hbm, 378, rfl⟩
abbrev main_call0_v351 : Ref sig .tc := ⟨.hbm, 379, rfl⟩
abbrev main_call0_v352 : Ref sig .tc := ⟨.hbm, 380, rfl⟩
abbrev main_call0_v353 : Ref sig .tc := ⟨.hbm, 381, rfl⟩
abbrev main_call0_v354 : Ref sig .tc := ⟨.hbm, 382, rfl⟩
abbrev main_call0_v355 : Ref sig .tc := ⟨.hbm, 383, rfl⟩
abbrev main_call0_v356 : Ref sig .tc := ⟨.hbm, 384, rfl⟩
abbrev main_call0_v357 : Ref sig .tc := ⟨.hbm, 385, rfl⟩
abbrev main_call0_v358 : Ref sig .tc := ⟨.hbm, 386, rfl⟩
abbrev main_call0_v359 : Ref sig .tc := ⟨.hbm, 387, rfl⟩
abbrev main_call0_v360 : Ref sig .tc := ⟨.hbm, 388, rfl⟩
abbrev main_call0_v361 : Ref sig .tc := ⟨.hbm, 389, rfl⟩
abbrev main_call0_v362 : Ref sig .tc := ⟨.hbm, 390, rfl⟩
abbrev main_call0_cst_21 : Ref sig .tc := ⟨.hbm, 391, rfl⟩
abbrev main_call0_v363 : Ref sig .tc := ⟨.hbm, 392, rfl⟩
abbrev main_call0_v364 : Ref sig .tc := ⟨.hbm, 393, rfl⟩
abbrev main_call0_v365 : Ref sig .tc := ⟨.hbm, 394, rfl⟩
abbrev main_call0_v366 : Ref sig .tc := ⟨.hbm, 395, rfl⟩
abbrev main_call0_v367 : Ref sig .tc := ⟨.hbm, 396, rfl⟩
abbrev main_call0_v368 : Ref sig .tc := ⟨.hbm, 397, rfl⟩
abbrev main_call0_v369 : Ref sig .tc := ⟨.hbm, 398, rfl⟩
abbrev main_call0_v370 : Ref sig .tc := ⟨.hbm, 399, rfl⟩
abbrev main_call0_v371 : Ref sig .tc := ⟨.hbm, 400, rfl⟩
abbrev main_call0_v372 : Ref sig .tc := ⟨.hbm, 401, rfl⟩
abbrev main_call0_v373 : Ref sig .tc := ⟨.hbm, 402, rfl⟩
abbrev main_call0_v374 : Ref sig .tc := ⟨.hbm, 403, rfl⟩
abbrev main_call0_v375 : Ref sig .tc := ⟨.hbm, 404, rfl⟩
abbrev main_call0_v376 : Ref sig .tc := ⟨.hbm, 405, rfl⟩
abbrev main_call0_v377 : Ref sig .tc := ⟨.hbm, 406, rfl⟩
abbrev main_call0_v378 : Ref sig .tc := ⟨.hbm, 407, rfl⟩
abbrev main_call0_v379 : Ref sig .tc := ⟨.hbm, 408, rfl⟩
abbrev main_call0_v380 : Ref sig .tc := ⟨.hbm, 409, rfl⟩
abbrev main_call0_v381 : Ref sig .tc := ⟨.hbm, 410, rfl⟩
abbrev main_call0_v382 : Ref sig .tc := ⟨.hbm, 411, rfl⟩
abbrev main_v0 : Ref sig .tc := ⟨.hbm, 412, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v7 : Index := Scalar.indexCast v6
  let c0 : Index := 0#32
  ![v7.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let c0_i32_17 : BitVec 32 := 0#32
  let v9 : BitVec 32 := Scalar.addi v6 c0_i32_17
  v9
def k0_off2 (k0_t1 : Fin k0_t1_loop.trips) (c0_i32_17 : BitVec 32) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v9 : BitVec 32 := Scalar.addi v6 c0_i32_17
  let v10 : BitVec 32 := v9
  let v11 : Index := Scalar.indexCast v10
  let c0_18 : Index := 0#32
  ![v11.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let c256_i32 : BitVec 32 := 256#32
  let v16 : BitVec 32 := Scalar.addi v6 c256_i32
  v16
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v24 : Index := Scalar.indexCast v6
  let c36 : Index := 36#32
  ![v24.toNat, 36]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v27 : Index := Scalar.indexCast v6
  let c37 : Index := 37#32
  ![v27.toNat, 37]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v42 : Index := Scalar.indexCast v6
  let c6 : Index := 6#32
  ![v42.toNat, 6]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v45 : Index := Scalar.indexCast v6
  let c18 : Index := 18#32
  ![v45.toNat, 18]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v48 : Index := Scalar.indexCast v6
  let c30 : Index := 30#32
  ![v48.toNat, 30]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v65 : Index := Scalar.indexCast v6
  let c7 : Index := 7#32
  ![v65.toNat, 7]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v68 : Index := Scalar.indexCast v6
  let c19 : Index := 19#32
  ![v68.toNat, 19]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v71 : Index := Scalar.indexCast v6
  let c31 : Index := 31#32
  ![v71.toNat, 31]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v88 : Index := Scalar.indexCast v6
  let c8 : Index := 8#32
  ![v88.toNat, 8]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v91 : Index := Scalar.indexCast v6
  let c20 : Index := 20#32
  ![v91.toNat, 20]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v94 : Index := Scalar.indexCast v6
  let c32 : Index := 32#32
  ![v94.toNat, 32]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v111 : Index := Scalar.indexCast v6
  let c0_23 : Index := 0#32
  ![v111.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult4 (k0_t2 : Fin k0_t2_loop.trips) : BitVec 32 :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  v5
def k0_off15 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let v7 : Index := Scalar.indexCast v6
  let c0 : Index := 0#32
  ![v7.toNat, 0]
def k0_off16 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let v9 : Index := Scalar.indexCast v6
  let c9 : Index := 9#32
  ![v9.toNat, 9]
def k0_off17 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let v12 : Index := Scalar.indexCast v6
  let c21 : Index := 21#32
  ![v12.toNat, 21]
def k0_off18 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let v15 : Index := Scalar.indexCast v6
  let c33 : Index := 33#32
  ![v15.toNat, 33]
def k0_mult5 (k0_t2 : Fin k0_t2_loop.trips) : BitVec 32 :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let c512_i32_17 : BitVec 32 := 512#32
  let v18 : BitVec 32 := Scalar.xori v6 c512_i32_17
  v18
def k0_off19 (k0_t2 : Fin k0_t2_loop.trips) : Fin 2 → Nat :=
  let c0_i32_1 : BitVec 32 := 0#32
  let c1_i32_3 : BitVec 32 := 1#32
  let arg7 : BitVec 32 := Scf.iv c0_i32_1 c1_i32_3 k0_t2
  let c512_i32 : BitVec 32 := 512#32
  let v5 : BitVec 32 := Scalar.muli arg7 c512_i32
  let v6 : BitVec 32 := v5
  let c512_i32_17 : BitVec 32 := 512#32
  let v18 : BitVec 32 := Scalar.xori v6 c512_i32_17
  let v19 : BitVec 32 := v18
  let v20 : Index := Scalar.indexCast v19
  let c0_18 : Index := 0#32
  ![v20.toNat, 0]
@[reducible] def k0_t3_loop : Scf.Loop 32 :=
  let c0_i32_5 : BitVec 32 := 0#32
  let c8_i32_6 : BitVec 32 := 8#32
  let v2 : BitVec 32 := Scalar.addi c0_i32_5 c8_i32_6
  let c1_i32_7 : BitVec 32 := 1#32
  ⟨c0_i32_5, v2, c1_i32_7⟩
def k0_mult6 (k0_t3 : Fin k0_t3_loop.trips) : BitVec 32 :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  v5
def k0_off20 (k0_t3 : Fin k0_t3_loop.trips) : Fin 2 → Nat :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let v7 : Index := Scalar.indexCast v6
  let c0 : Index := 0#32
  ![v7.toNat, 0]
def k0_off21 (k0_t3 : Fin k0_t3_loop.trips) : Fin 2 → Nat :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let v9 : Index := Scalar.indexCast v6
  let c10 : Index := 10#32
  ![v9.toNat, 10]
def k0_off22 (k0_t3 : Fin k0_t3_loop.trips) : Fin 2 → Nat :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let v12 : Index := Scalar.indexCast v6
  let c22 : Index := 22#32
  ![v12.toNat, 22]
def k0_off23 (k0_t3 : Fin k0_t3_loop.trips) : Fin 2 → Nat :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let v15 : Index := Scalar.indexCast v6
  let c34 : Index := 34#32
  ![v15.toNat, 34]
def k0_mult7 (k0_t3 : Fin k0_t3_loop.trips) : BitVec 32 :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let c1024_i32 : BitVec 32 := 1024#32
  let v18 : BitVec 32 := Scalar.xori v6 c1024_i32
  v18
def k0_off24 (k0_t3 : Fin k0_t3_loop.trips) : Fin 2 → Nat :=
  let c0_i32_5 : BitVec 32 := 0#32
  let c1_i32_7 : BitVec 32 := 1#32
  let arg7 : BitVec 32 := Scf.iv c0_i32_5 c1_i32_7 k0_t3
  let c512_i32 : BitVec 32 := 512#32
  let v5 : BitVec 32 := Scalar.muli arg7 c512_i32
  let v6 : BitVec 32 := v5
  let c1024_i32 : BitVec 32 := 1024#32
  let v18 : BitVec 32 := Scalar.xori v6 c1024_i32
  let v19 : BitVec 32 := v18
  let v20 : Index := Scalar.indexCast v19
  let c0_17 : Index := 0#32
  ![v20.toNat, 0]
@[reducible] def k0_t4_loop : Scf.Loop 32 :=
  let c0_i32_9 : BitVec 32 := 0#32
  let c8_i32_10 : BitVec 32 := 8#32
  let v3 : BitVec 32 := Scalar.addi c0_i32_9 c8_i32_10
  let c1_i32_11 : BitVec 32 := 1#32
  ⟨c0_i32_9, v3, c1_i32_11⟩
def k0_mult8 (k0_t4 : Fin k0_t4_loop.trips) : BitVec 32 :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  v5
def k0_off25 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let v7 : Index := Scalar.indexCast v6
  let c0 : Index := 0#32
  ![v7.toNat, 0]
def k0_off26 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let v9 : Index := Scalar.indexCast v6
  let c11 : Index := 11#32
  ![v9.toNat, 11]
def k0_off27 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let v12 : Index := Scalar.indexCast v6
  let c23 : Index := 23#32
  ![v12.toNat, 23]
def k0_off28 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let v15 : Index := Scalar.indexCast v6
  let c35 : Index := 35#32
  ![v15.toNat, 35]
def k0_mult9 (k0_t4 : Fin k0_t4_loop.trips) : BitVec 32 :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let c2048_i32 : BitVec 32 := 2048#32
  let v18 : BitVec 32 := Scalar.xori v6 c2048_i32
  v18
def k0_off29 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let c2048_i32 : BitVec 32 := 2048#32
  let v18 : BitVec 32 := Scalar.xori v6 c2048_i32
  let v19 : BitVec 32 := v18
  let v20 : Index := Scalar.indexCast v19
  let c0_17 : Index := 0#32
  ![v20.toNat, 0]
def k0_off30 (k0_t4 : Fin k0_t4_loop.trips) : Fin 2 → Nat :=
  let c0_i32_9 : BitVec 32 := 0#32
  let c1_i32_11 : BitVec 32 := 1#32
  let arg7 : BitVec 32 := Scf.iv c0_i32_9 c1_i32_11 k0_t4
  let c512_i32 : BitVec 32 := 512#32
  let v5 : BitVec 32 := Scalar.muli arg7 c512_i32
  let v6 : BitVec 32 := v5
  let v28 : Index := Scalar.indexCast v6
  let c0_18 : Index := 0#32
  ![v28.toNat, 0]
@[reducible] def k0_t5_loop : Scf.Loop 32 :=
  let c0_i32_13 : BitVec 32 := 0#32
  let c8_i32_14 : BitVec 32 := 8#32
  let v4 : BitVec 32 := Scalar.addi c0_i32_13 c8_i32_14
  let c1_i32_15 : BitVec 32 := 1#32
  ⟨c0_i32_13, v4, c1_i32_15⟩
def k0_mult10 (k0_t5 : Fin k0_t5_loop.trips) : BitVec 32 :=
  let c4096_i32 : BitVec 32 := 4096#32
  let c0_i32_13 : BitVec 32 := 0#32
  let c1_i32_15 : BitVec 32 := 1#32
  let arg7 : BitVec 32 := Scf.iv c0_i32_13 c1_i32_15 k0_t5
  let c512_i32 : BitVec 32 := 512#32
  let v5 : BitVec 32 := Scalar.muli arg7 c512_i32
  let v6 : BitVec 32 := Scalar.addi c4096_i32 v5
  v6
def k0_off31 (k0_t5 : Fin k0_t5_loop.trips) : Fin 2 → Nat :=
  let c4096_i32 : BitVec 32 := 4096#32
  let c0_i32_13 : BitVec 32 := 0#32
  let c1_i32_15 : BitVec 32 := 1#32
  let arg7 : BitVec 32 := Scf.iv c0_i32_13 c1_i32_15 k0_t5
  let c512_i32 : BitVec 32 := 512#32
  let v5 : BitVec 32 := Scalar.muli arg7 c512_i32
  let v6 : BitVec 32 := Scalar.addi c4096_i32 v5
  let v7 : BitVec 32 := v6
  let v8 : Index := Scalar.indexCast v7
  let c0 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x2048 : Shape := ⟨2, ![8192, 2048]⟩
abbrev S12x2048 : Shape := ⟨2, ![12, 2048]⟩
abbrev S2048 : Shape := ⟨1, ![2048]⟩
abbrev S4096 : Shape := ⟨1, ![4096]⟩
abbrev S_ : Shape := ⟨0, ![]⟩
abbrev S4096x1 : Shape := ⟨2, ![4096, 1]⟩
abbrev S4096x2048 : Shape := ⟨2, ![4096, 2048]⟩
abbrev S1x2048 : Shape := ⟨2, ![1, 2048]⟩
abbrev S2048x2x1x2048 : Shape := ⟨4, ![2048, 2, 1, 2048]⟩
abbrev S2048x1 : Shape := ⟨2, ![2048, 1]⟩
abbrev S2048x1x1 : Shape := ⟨3, ![2048, 1, 1]⟩
abbrev S2048x1x1x2048 : Shape := ⟨4, ![2048, 1, 1, 2048]⟩
abbrev S2048x1x2048 : Shape := ⟨3, ![2048, 1, 2048]⟩
abbrev S1024x2x2x2048 : Shape := ⟨4, ![1024, 2, 2, 2048]⟩
abbrev S1024x2 : Shape := ⟨2, ![1024, 2]⟩
abbrev S1024x2x1 : Shape := ⟨3, ![1024, 2, 1]⟩
abbrev S1024x1x2x2048 : Shape := ⟨4, ![1024, 1, 2, 2048]⟩
abbrev S1024x2x2048 : Shape := ⟨3, ![1024, 2, 2048]⟩
abbrev S512x2x4x2048 : Shape := ⟨4, ![512, 2, 4, 2048]⟩
abbrev S512x4 : Shape := ⟨2, ![512, 4]⟩
abbrev S512x4x1 : Shape := ⟨3, ![512, 4, 1]⟩
abbrev S512x1x4x2048 : Shape := ⟨4, ![512, 1, 4, 2048]⟩
abbrev S512x4x2048 : Shape := ⟨3, ![512, 4, 2048]⟩
abbrev S256x2x8x2048 : Shape := ⟨4, ![256, 2, 8, 2048]⟩
abbrev S256x8 : Shape := ⟨2, ![256, 8]⟩
abbrev S256x8x1 : Shape := ⟨3, ![256, 8, 1]⟩
abbrev S256x1x8x2048 : Shape := ⟨4, ![256, 1, 8, 2048]⟩
abbrev S256x8x2048 : Shape := ⟨3, ![256, 8, 2048]⟩
abbrev S128x2x16x2048 : Shape := ⟨4, ![128, 2, 16, 2048]⟩
abbrev S128x16 : Shape := ⟨2, ![128, 16]⟩
abbrev S128x16x1 : Shape := ⟨3, ![128, 16, 1]⟩
abbrev S128x1x16x2048 : Shape := ⟨4, ![128, 1, 16, 2048]⟩
abbrev S128x16x2048 : Shape := ⟨3, ![128, 16, 2048]⟩
abbrev S64x2x32x2048 : Shape := ⟨4, ![64, 2, 32, 2048]⟩
abbrev S64x32 : Shape := ⟨2, ![64, 32]⟩
abbrev S64x32x1 : Shape := ⟨3, ![64, 32, 1]⟩
abbrev S64x1x32x2048 : Shape := ⟨4, ![64, 1, 32, 2048]⟩
abbrev S64x32x2048 : Shape := ⟨3, ![64, 32, 2048]⟩
abbrev S256x16x2048 : Shape := ⟨3, ![256, 16, 2048]⟩
abbrev S1 : Shape := ⟨1, ![1]⟩
abbrev S32x2x64x2048 : Shape := ⟨4, ![32, 2, 64, 2048]⟩
abbrev S32x64 : Shape := ⟨2, ![32, 64]⟩
abbrev S32x64x1 : Shape := ⟨3, ![32, 64, 1]⟩
abbrev S32x1x64x2048 : Shape := ⟨4, ![32, 1, 64, 2048]⟩
abbrev S32x64x2048 : Shape := ⟨3, ![32, 64, 2048]⟩
abbrev S16x2x128x2048 : Shape := ⟨4, ![16, 2, 128, 2048]⟩
abbrev S16x128 : Shape := ⟨2, ![16, 128]⟩
abbrev S16x128x1 : Shape := ⟨3, ![16, 128, 1]⟩
abbrev S16x1x128x2048 : Shape := ⟨4, ![16, 1, 128, 2048]⟩
abbrev S16x128x2048 : Shape := ⟨3, ![16, 128, 2048]⟩
abbrev S8x2x256x2048 : Shape := ⟨4, ![8, 2, 256, 2048]⟩
abbrev S8x256 : Shape := ⟨2, ![8, 256]⟩
abbrev S8x256x1 : Shape := ⟨3, ![8, 256, 1]⟩
abbrev S8x1x256x2048 : Shape := ⟨4, ![8, 1, 256, 2048]⟩
abbrev S8x256x2048 : Shape := ⟨3, ![8, 256, 2048]⟩
abbrev S4x2x512x2048 : Shape := ⟨4, ![4, 2, 512, 2048]⟩
abbrev S4x512 : Shape := ⟨2, ![4, 512]⟩
abbrev S4x512x1 : Shape := ⟨3, ![4, 512, 1]⟩
abbrev S4x1x512x2048 : Shape := ⟨4, ![4, 1, 512, 2048]⟩
abbrev S4x512x2048 : Shape := ⟨3, ![4, 512, 2048]⟩
abbrev S2x2x1024x2048 : Shape := ⟨4, ![2, 2, 1024, 2048]⟩
abbrev S2x1024 : Shape := ⟨2, ![2, 1024]⟩
abbrev S2x1024x1 : Shape := ⟨3, ![2, 1024, 1]⟩
abbrev S2x1x1024x2048 : Shape := ⟨4, ![2, 1, 1024, 2048]⟩
abbrev S2x1024x2048 : Shape := ⟨3, ![2, 1024, 2048]⟩
abbrev S1x2x2048x2048 : Shape := ⟨4, ![1, 2, 2048, 2048]⟩
abbrev S1x2048x1 : Shape := ⟨3, ![1, 2048, 1]⟩
abbrev S1x1x2048x2048 : Shape := ⟨4, ![1, 1, 2048, 2048]⟩
abbrev S1x2048x2048 : Shape := ⟨3, ![1, 2048, 2048]⟩

abbrev nBuf : Space → Nat
  | .hbm => 352
  | .vmem => 0
  | .smem => 0
  | _ => 0

abbrev hbmTy0_0 (i : Nat) : BufTy := match i % 128 with
  | 0 => ⟨S8192x2048, .f32⟩
  | 1 => ⟨S12x2048, .f32⟩
  | 2 => ⟨S2048, .f32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x2048, .f32⟩
  | 14 => ⟨S1x2048, .f32⟩
  | 15 => ⟨S2048, .f32⟩
  | 16 => ⟨S2048x2x1x2048, .f32⟩
  | 17 => ⟨S2048x1, .f32⟩
  | 18 => ⟨S2048x1x1, .f32⟩
  | 19 => ⟨S2048x1x1, .f32⟩
  | 20 => ⟨S2048x1x1, .f32⟩
  | 21 => ⟨S2048x1x1x2048, .f32⟩
  | 22 => ⟨S2048x1x2048, .f32⟩
  | 23 => ⟨S2048x1x1x2048, .f32⟩
  | 24 => ⟨S2048x1x2048, .f32⟩
  | 25 => ⟨S2048x1x2048, .f32⟩
  | 26 => ⟨S2048x1x2048, .f32⟩
  | 27 => ⟨S2048x1x2048, .f32⟩
  | 28 => ⟨S2048x1x2048, .f32⟩
  | 29 => ⟨S2048x1x2048, .f32⟩
  | 30 => ⟨S2048x1x1, .f32⟩
  | 31 => ⟨S2048x1x2048, .f32⟩
  | 32 => ⟨S2048x1x2048, .f32⟩
  | 33 => ⟨S2048x1x2048, .f32⟩
  | 34 => ⟨S2048x1x2048, .f32⟩
  | 35 => ⟨S2048x1x2048, .f32⟩
  | 36 => ⟨S2048x1x1x2048, .f32⟩
  | 37 => ⟨S2048x1x1x2048, .f32⟩
  | 38 => ⟨S2048x2x1x2048, .f32⟩
  | 39 => ⟨S4096x2048, .f32⟩
  | 40 => ⟨S1x2048, .f32⟩
  | 41 => ⟨S2048, .f32⟩
  | 42 => ⟨S1024x2x2x2048, .f32⟩
  | 43 => ⟨S1024x2, .f32⟩
  | 44 => ⟨S1024x2x1, .f32⟩
  | 45 => ⟨S1024x2x1, .f32⟩
  | 46 => ⟨S1024x2x1, .f32⟩
  | 47 => ⟨S1024x1x2x2048, .f32⟩
  | 48 => ⟨S1024x2x2048, .f32⟩
  | 49 => ⟨S1024x1x2x2048, .f32⟩
  | 50 => ⟨S1024x2x2048, .f32⟩
  | 51 => ⟨S1024x2x2048, .f32⟩
  | 52 => ⟨S1024x2x2048, .f32⟩
  | 53 => ⟨S1024x2x2048, .f32⟩
  | 54 => ⟨S1024x2x2048, .f32⟩
  | 55 => ⟨S1024x2x2048, .f32⟩
  | 56 => ⟨S1024x2x1, .f32⟩
  | 57 => ⟨S1024x2x2048, .f32⟩
  | 58 => ⟨S1024x2x2048, .f32⟩
  | 59 => ⟨S1024x2x2048, .f32⟩
  | 60 => ⟨S1024x2x2048, .f32⟩
  | 61 => ⟨S1024x2x2048, .f32⟩
  | 62 => ⟨S1024x1x2x2048, .f32⟩
  | 63 => ⟨S1024x1x2x2048, .f32⟩
  | 64 => ⟨S1024x2x2x2048, .f32⟩
  | 65 => ⟨S4096x2048, .f32⟩
  | 66 => ⟨S1x2048, .f32⟩
  | 67 => ⟨S2048, .f32⟩
  | 68 => ⟨S512x2x4x2048, .f32⟩
  | 69 => ⟨S512x4, .f32⟩
  | 70 => ⟨S512x4x1, .f32⟩
  | 71 => ⟨S512x4x1, .f32⟩
  | 72 => ⟨S512x4x1, .f32⟩
  | 73 => ⟨S512x1x4x2048, .f32⟩
  | 74 => ⟨S512x4x2048, .f32⟩
  | 75 => ⟨S512x1x4x2048, .f32⟩
  | 76 => ⟨S512x4x2048, .f32⟩
  | 77 => ⟨S512x4x2048, .f32⟩
  | 78 => ⟨S512x4x2048, .f32⟩
  | 79 => ⟨S512x4x2048, .f32⟩
  | 80 => ⟨S512x4x2048, .f32⟩
  | 81 => ⟨S512x4x2048, .f32⟩
  | 82 => ⟨S512x4x1, .f32⟩
  | 83 => ⟨S512x4x2048, .f32⟩
  | 84 => ⟨S512x4x2048, .f32⟩
  | 85 => ⟨S512x4x2048, .f32⟩
  | 86 => ⟨S512x4x2048, .f32⟩
  | 87 => ⟨S512x4x2048, .f32⟩
  | 88 => ⟨S512x1x4x2048, .f32⟩
  | 89 => ⟨S512x1x4x2048, .f32⟩
  | 90 => ⟨S512x2x4x2048, .f32⟩
  | 91 => ⟨S4096x2048, .f32⟩
  | 92 => ⟨S1x2048, .f32⟩
  | 93 => ⟨S2048, .f32⟩
  | 94 => ⟨S256x2x8x2048, .f32⟩
  | 95 => ⟨S256x8, .f32⟩
  | 96 => ⟨S256x8x1, .f32⟩
  | 97 => ⟨S256x8x1, .f32⟩
  | 98 => ⟨S256x8x1, .f32⟩
  | 99 => ⟨S256x1x8x2048, .f32⟩
  | 100 => ⟨S256x8x2048, .f32⟩
  | 101 => ⟨S256x1x8x2048, .f32⟩
  | 102 => ⟨S256x8x2048, .f32⟩
  | 103 => ⟨S256x8x2048, .f32⟩
  | 104 => ⟨S256x8x2048, .f32⟩
  | 105 => ⟨S256x8x2048, .f32⟩
  | 106 => ⟨S256x8x2048, .f32⟩
  | 107 => ⟨S256x8x2048, .f32⟩
  | 108 => ⟨S256x8x1, .f32⟩
  | 109 => ⟨S256x8x2048, .f32⟩
  | 110 => ⟨S256x8x2048, .f32⟩
  | 111 => ⟨S256x8x2048, .f32⟩
  | 112 => ⟨S256x8x2048, .f32⟩
  | 113 => ⟨S256x8x2048, .f32⟩
  | 114 => ⟨S256x1x8x2048, .f32⟩
  | 115 => ⟨S256x1x8x2048, .f32⟩
  | 116 => ⟨S256x2x8x2048, .f32⟩
  | 117 => ⟨S4096x2048, .f32⟩
  | 118 => ⟨S1x2048, .f32⟩
  | 119 => ⟨S2048, .f32⟩
  | 120 => ⟨S128x2x16x2048, .f32⟩
  | 121 => ⟨S128x16, .f32⟩
  | 122 => ⟨S128x16x1, .f32⟩
  | 123 => ⟨S128x16x1, .f32⟩
  | 124 => ⟨S128x16x1, .f32⟩
  | 125 => ⟨S128x1x16x2048, .f32⟩
  | 126 => ⟨S128x16x2048, .f32⟩
  | 127 => ⟨S128x1x16x2048, .f32⟩
  | _ => ⟨S8192x2048, .f32⟩

abbrev hbmTy0_1 (i : Nat) : BufTy := match i % 128 with
  | 0 => ⟨S128x16x2048, .f32⟩
  | 1 => ⟨S128x16x2048, .f32⟩
  | 2 => ⟨S128x16x2048, .f32⟩
  | 3 => ⟨S128x16x2048, .f32⟩
  | 4 => ⟨S128x16x2048, .f32⟩
  | 5 => ⟨S128x16x2048, .f32⟩
  | 6 => ⟨S128x16x1, .f32⟩
  | 7 => ⟨S128x16x2048, .f32⟩
  | 8 => ⟨S128x16x2048, .f32⟩
  | 9 => ⟨S128x16x2048, .f32⟩
  | 10 => ⟨S128x16x2048, .f32⟩
  | 11 => ⟨S128x16x2048, .f32⟩
  | 12 => ⟨S128x1x16x2048, .f32⟩
  | 13 => ⟨S128x1x16x2048, .f32⟩
  | 14 => ⟨S128x2x16x2048, .f32⟩
  | 15 => ⟨S4096x2048, .f32⟩
  | 16 => ⟨S1x2048, .f32⟩
  | 17 => ⟨S2048, .f32⟩
  | 18 => ⟨S64x2x32x2048, .f32⟩
  | 19 => ⟨S64x32, .f32⟩
  | 20 => ⟨S64x32x1, .f32⟩
  | 21 => ⟨S64x32x1, .f32⟩
  | 22 => ⟨S64x32x1, .f32⟩
  | 23 => ⟨S64x1x32x2048, .f32⟩
  | 24 => ⟨S64x32x2048, .f32⟩
  | 25 => ⟨S64x1x32x2048, .f32⟩
  | 26 => ⟨S64x32x2048, .f32⟩
  | 27 => ⟨S64x32x2048, .f32⟩
  | 28 => ⟨S64x32x2048, .f32⟩
  | 29 => ⟨S64x32x2048, .f32⟩
  | 30 => ⟨S64x32x2048, .f32⟩
  | 31 => ⟨S64x32x2048, .f32⟩
  | 32 => ⟨S64x32x1, .f32⟩
  | 33 => ⟨S64x32x2048, .f32⟩
  | 34 => ⟨S64x32x2048, .f32⟩
  | 35 => ⟨S64x32x2048, .f32⟩
  | 36 => ⟨S64x32x2048, .f32⟩
  | 37 => ⟨S64x32x2048, .f32⟩
  | 38 => ⟨S64x1x32x2048, .f32⟩
  | 39 => ⟨S64x1x32x2048, .f32⟩
  | 40 => ⟨S64x2x32x2048, .f32⟩
  | 41 => ⟨S4096x2048, .f32⟩
  | 42 => ⟨S256x16x2048, .f32⟩
  | 43 => ⟨S256x8x1, .f32⟩
  | 44 => ⟨S256x8x2048, .f32⟩
  | 45 => ⟨S256x8x2048, .f32⟩
  | 46 => ⟨S_, .f32⟩
  | 47 => ⟨S256x8x2048, .f32⟩
  | 48 => ⟨S256x8x2048, .f32⟩
  | 49 => ⟨S256x8x2048, .f32⟩
  | 50 => ⟨S_, .f32⟩
  | 51 => ⟨S256x8x2048, .f32⟩
  | 52 => ⟨S256x8x2048, .f32⟩
  | 53 => ⟨S256x8x2048, .f32⟩
  | 54 => ⟨S256x8x2048, .f32⟩
  | 55 => ⟨S_, .i32⟩
  | 56 => ⟨S1, .i32⟩
  | 57 => ⟨S256x16x2048, .f32⟩
  | 58 => ⟨S4096x2048, .f32⟩
  | 59 => ⟨S1x2048, .f32⟩
  | 60 => ⟨S2048, .f32⟩
  | 61 => ⟨S32x2x64x2048, .f32⟩
  | 62 => ⟨S32x64, .f32⟩
  | 63 => ⟨S32x64x1, .f32⟩
  | 64 => ⟨S32x64x1, .f32⟩
  | 65 => ⟨S32x64x1, .f32⟩
  | 66 => ⟨S32x1x64x2048, .f32⟩
  | 67 => ⟨S32x64x2048, .f32⟩
  | 68 => ⟨S32x1x64x2048, .f32⟩
  | 69 => ⟨S32x64x2048, .f32⟩
  | 70 => ⟨S32x64x2048, .f32⟩
  | 71 => ⟨S32x64x2048, .f32⟩
  | 72 => ⟨S32x64x2048, .f32⟩
  | 73 => ⟨S32x64x2048, .f32⟩
  | 74 => ⟨S32x64x2048, .f32⟩
  | 75 => ⟨S32x64x1, .f32⟩
  | 76 => ⟨S32x64x2048, .f32⟩
  | 77 => ⟨S32x64x2048, .f32⟩
  | 78 => ⟨S32x64x2048, .f32⟩
  | 79 => ⟨S32x64x2048, .f32⟩
  | 80 => ⟨S32x64x2048, .f32⟩
  | 81 => ⟨S32x1x64x2048, .f32⟩
  | 82 => ⟨S32x1x64x2048, .f32⟩
  | 83 => ⟨S32x2x64x2048, .f32⟩
  | 84 => ⟨S4096x2048, .f32⟩
  | 85 => ⟨S1x2048, .f32⟩
  | 86 => ⟨S2048, .f32⟩
  | 87 => ⟨S16x2x128x2048, .f32⟩
  | 88 => ⟨S16x128, .f32⟩
  | 89 => ⟨S16x128x1, .f32⟩
  | 90 => ⟨S16x128x1, .f32⟩
  | 91 => ⟨S16x128x1, .f32⟩
  | 92 => ⟨S16x1x128x2048, .f32⟩
  | 93 => ⟨S16x128x2048, .f32⟩
  | 94 => ⟨S16x1x128x2048, .f32⟩
  | 95 => ⟨S16x128x2048, .f32⟩
  | 96 => ⟨S16x128x2048, .f32⟩
  | 97 => ⟨S16x128x2048, .f32⟩
  | 98 => ⟨S16x128x2048, .f32⟩
  | 99 => ⟨S16x128x2048, .f32⟩
  | 100 => ⟨S16x128x2048, .f32⟩
  | 101 => ⟨S16x128x1, .f32⟩
  | 102 => ⟨S16x128x2048, .f32⟩
  | 103 => ⟨S16x128x2048, .f32⟩
  | 104 => ⟨S16x128x2048, .f32⟩
  | 105 => ⟨S16x128x2048, .f32⟩
  | 106 => ⟨S16x128x2048, .f32⟩
  | 107 => ⟨S16x1x128x2048, .f32⟩
  | 108 => ⟨S16x1x128x2048, .f32⟩
  | 109 => ⟨S16x2x128x2048, .f32⟩
  | 110 => ⟨S4096x2048, .f32⟩
  | 111 => ⟨S1x2048, .f32⟩
  | 112 => ⟨S2048, .f32⟩
  | 113 => ⟨S8x2x256x2048, .f32⟩
  | 114 => ⟨S8x256, .f32⟩
  | 115 => ⟨S8x256x1, .f32⟩
  | 116 => ⟨S8x256x1, .f32⟩
  | 117 => ⟨S8x256x1, .f32⟩
  | 118 => ⟨S8x1x256x2048, .f32⟩
  | 119 => ⟨S8x256x2048, .f32⟩
  | 120 => ⟨S8x1x256x2048, .f32⟩
  | 121 => ⟨S8x256x2048, .f32⟩
  | 122 => ⟨S8x256x2048, .f32⟩
  | 123 => ⟨S8x256x2048, .f32⟩
  | 124 => ⟨S8x256x2048, .f32⟩
  | 125 => ⟨S8x256x2048, .f32⟩
  | 126 => ⟨S8x256x2048, .f32⟩
  | 127 => ⟨S8x256x1, .f32⟩
  | _ => ⟨S8192x2048, .f32⟩

abbrev hbmTy0_2 (i : Nat) : BufTy := match i % 128 with
  | 0 => ⟨S8x256x2048, .f32⟩
  | 1 => ⟨S8x256x2048, .f32⟩
  | 2 => ⟨S8x256x2048, .f32⟩
  | 3 => ⟨S8x256x2048, .f32⟩
  | 4 => ⟨S8x256x2048, .f32⟩
  | 5 => ⟨S8x1x256x2048, .f32⟩
  | 6 => ⟨S8x1x256x2048, .f32⟩
  | 7 => ⟨S8x2x256x2048, .f32⟩
  | 8 => ⟨S4096x2048, .f32⟩
  | 9 => ⟨S1x2048, .f32⟩
  | 10 => ⟨S2048, .f32⟩
  | 11 => ⟨S4x2x512x2048, .f32⟩
  | 12 => ⟨S4x512, .f32⟩
  | 13 => ⟨S4x512x1, .f32⟩
  | 14 => ⟨S4x512x1, .f32⟩
  | 15 => ⟨S4x512x1, .f32⟩
  | 16 => ⟨S4x1x512x2048, .f32⟩
  | 17 => ⟨S4x512x2048, .f32⟩
  | 18 => ⟨S4x1x512x2048, .f32⟩
  | 19 => ⟨S4x512x2048, .f32⟩
  | 20 => ⟨S4x512x2048, .f32⟩
  | 21 => ⟨S4x512x2048, .f32⟩
  | 22 => ⟨S4x512x2048, .f32⟩
  | 23 => ⟨S4x512x2048, .f32⟩
  | 24 => ⟨S4x512x2048, .f32⟩
  | 25 => ⟨S4x512x1, .f32⟩
  | 26 => ⟨S4x512x2048, .f32⟩
  | 27 => ⟨S4x512x2048, .f32⟩
  | 28 => ⟨S4x512x2048, .f32⟩
  | 29 => ⟨S4x512x2048, .f32⟩
  | 30 => ⟨S4x512x2048, .f32⟩
  | 31 => ⟨S4x1x512x2048, .f32⟩
  | 32 => ⟨S4x1x512x2048, .f32⟩
  | 33 => ⟨S4x2x512x2048, .f32⟩
  | 34 => ⟨S4096x2048, .f32⟩
  | 35 => ⟨S1x2048, .f32⟩
  | 36 => ⟨S2048, .f32⟩
  | 37 => ⟨S2x2x1024x2048, .f32⟩
  | 38 => ⟨S2x1024, .f32⟩
  | 39 => ⟨S2x1024x1, .f32⟩
  | 40 => ⟨S2x1024x1, .f32⟩
  | 41 => ⟨S2x1024x1, .f32⟩
  | 42 => ⟨S2x1x1024x2048, .f32⟩
  | 43 => ⟨S2x1024x2048, .f32⟩
  | 44 => ⟨S2x1x1024x2048, .f32⟩
  | 45 => ⟨S2x1024x2048, .f32⟩
  | 46 => ⟨S2x1024x2048, .f32⟩
  | 47 => ⟨S2x1024x2048, .f32⟩
  | 48 => ⟨S2x1024x2048, .f32⟩
  | 49 => ⟨S2x1024x2048, .f32⟩
  | 50 => ⟨S2x1024x2048, .f32⟩
  | 51 => ⟨S2x1024x1, .f32⟩
  | 52 => ⟨S2x1024x2048, .f32⟩
  | 53 => ⟨S2x1024x2048, .f32⟩
  | 54 => ⟨S2x1024x2048, .f32⟩
  | 55 => ⟨S2x1024x2048, .f32⟩
  | 56 => ⟨S2x1024x2048, .f32⟩
  | 57 => ⟨S2x1x1024x2048, .f32⟩
  | 58 => ⟨S2x1x1024x2048, .f32⟩
  | 59 => ⟨S2x2x1024x2048, .f32⟩
  | 60 => ⟨S4096x2048, .f32⟩
  | 61 => ⟨S1x2048, .f32⟩
  | 62 => ⟨S2048, .f32⟩
  | 63 => ⟨S1x2x2048x2048, .f32⟩
  | 64 => ⟨S1x2048, .f32⟩
  | 65 => ⟨S1x2048x1, .f32⟩
  | 66 => ⟨S1x2048x1, .f32⟩
  | 67 => ⟨S1x2048x1, .f32⟩
  | 68 => ⟨S1x1x2048x2048, .f32⟩
  | 69 => ⟨S1x2048x2048, .f32⟩
  | 70 => ⟨S1x1x2048x2048, .f32⟩
  | 71 => ⟨S1x2048x2048, .f32⟩
  | 72 => ⟨S1x2048x2048, .f32⟩
  | 73 => ⟨S1x2048x2048, .f32⟩
  | 74 => ⟨S1x2048x2048, .f32⟩
  | 75 => ⟨S1x2048x2048, .f32⟩
  | 76 => ⟨S1x2048x2048, .f32⟩
  | 77 => ⟨S1x2048x1, .f32⟩
  | 78 => ⟨S1x2048x2048, .f32⟩
  | 79 => ⟨S1x2048x2048, .f32⟩
  | 80 => ⟨S1x2048x2048, .f32⟩
  | 81 => ⟨S1x2048x2048, .f32⟩
  | 82 => ⟨S1x2048x2048, .f32⟩
  | 83 => ⟨S1x1x2048x2048, .f32⟩
  | 84 => ⟨S1x1x2048x2048, .f32⟩
  | 85 => ⟨S1x2x2048x2048, .f32⟩
  | 86 => ⟨S4096x2048, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_cst : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_cst_1 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_c_2 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_v294 : Ref sig .tc := ⟨.hbm, 304, rfl⟩
abbrev main_v295 : Ref sig .tc := ⟨.hbm, 305, rfl⟩
abbrev main_v296 : Ref sig .tc := ⟨.hbm, 306, rfl⟩
abbrev main_v297 : Ref sig .tc := ⟨.hbm, 307, rfl⟩
abbrev main_v298 : Ref sig .tc := ⟨.hbm, 308, rfl⟩
abbrev main_v299 : Ref sig .tc := ⟨.hbm, 309, rfl⟩
abbrev main_v300 : Ref sig .tc := ⟨.hbm, 310, rfl⟩
abbrev main_v301 : Ref sig .tc := ⟨.hbm, 311, rfl⟩
abbrev main_v302 : Ref sig .tc := ⟨.hbm, 312, rfl⟩
abbrev main_v303 : Ref sig .tc := ⟨.hbm, 313, rfl⟩
abbrev main_v304 : Ref sig .tc := ⟨.hbm, 314, rfl⟩
abbrev main_v305 : Ref sig .tc := ⟨.hbm, 315, rfl⟩
abbrev main_v306 : Ref sig .tc := ⟨.hbm, 316, rfl⟩
abbrev main_v307 : Ref sig .tc := ⟨.hbm, 317, rfl⟩
abbrev main_v308 : Ref sig .tc := ⟨.hbm, 318, rfl⟩
abbrev main_v309 : Ref sig .tc := ⟨.hbm, 319, rfl⟩
abbrev main_v310 : Ref sig .tc := ⟨.hbm, 320, rfl⟩
abbrev main_v311 : Ref sig .tc := ⟨.hbm, 321, rfl⟩
abbrev main_v312 : Ref sig .tc := ⟨.hbm, 322, rfl⟩
abbrev main_v313 : Ref sig .tc := ⟨.hbm, 323, rfl⟩
abbrev main_v314 : Ref sig .tc := ⟨.hbm, 324, rfl⟩
abbrev main_v315 : Ref sig .tc := ⟨.hbm, 325, rfl⟩
abbrev main_v316 : Ref sig .tc := ⟨.hbm, 326, rfl⟩
abbrev main_v317 : Ref sig .tc := ⟨.hbm, 327, rfl⟩
abbrev main_v318 : Ref sig .tc := ⟨.hbm, 328, rfl⟩
abbrev main_v319 : Ref sig .tc := ⟨.hbm, 329, rfl⟩
abbrev main_v320 : Ref sig .tc := ⟨.hbm, 330, rfl⟩
abbrev main_v321 : Ref sig .tc := ⟨.hbm, 331, rfl⟩
abbrev main_v322 : Ref sig .tc := ⟨.hbm, 332, rfl⟩
abbrev main_v323 : Ref sig .tc := ⟨.hbm, 333, rfl⟩
abbrev main_v324 : Ref sig .tc := ⟨.hbm, 334, rfl⟩
abbrev main_v325 : Ref sig .tc := ⟨.hbm, 335, rfl⟩
abbrev main_v326 : Ref sig .tc := ⟨.hbm, 336, rfl⟩
abbrev main_v327 : Ref sig .tc := ⟨.hbm, 337, rfl⟩
abbrev main_v328 : Ref sig .tc := ⟨.hbm, 338, rfl⟩
abbrev main_v329 : Ref sig .tc := ⟨.hbm, 339, rfl⟩
abbrev main_v330 : Ref sig .tc := ⟨.hbm, 340, rfl⟩
abbrev main_v331 : Ref sig .tc := ⟨.hbm, 341, rfl⟩
abbrev main_v332 : Ref sig .tc := ⟨.hbm, 342, rfl⟩
abbrev main_c_3 : Ref sig .tc := ⟨.hbm, 343, rfl⟩
abbrev main_v333 : Ref sig .tc := ⟨.hbm, 344, rfl⟩
abbrev main_v334 : Ref sig .tc := ⟨.hbm, 345, rfl⟩
abbrev main_c_4 : Ref sig .tc := ⟨.hbm, 346, rfl⟩
abbrev main_v335 : Ref sig .tc := ⟨.hbm, 347, rfl⟩
abbrev main_v336 : Ref sig .tc := ⟨.hbm, 348, rfl⟩
abbrev main_v337 : Ref sig .tc := ⟨.hbm, 349, rfl⟩
abbrev main_v338 : Ref sig .tc := ⟨.hbm, 350, rfl⟩
abbrev main_v339 : Ref sig .tc := ⟨.hbm, 351, rfl⟩

abbrev nD : Nat := 1
abbrev τ : Topo := Topo.v7x

variable {F : FTy → Type} [FloatOps F]
-- ==== Proof.KernelFrame.lean ====
/-
  The frame of `Kernel`: it runs to completion and leaves its arguments as they were. The kernel body is run once on any
  staging buffers; what it leaves in the output window is not named here.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.StableHlo.RunRead
public import Idealize.ShloMosaic.Lib.Tactic
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the kernel -/

/-- Core `c`'s buffers when the kernel is entered: the launch contents after the host operations. -/
abbrev V (c : Dev nD) (b : Ref sig .tc) : Buf (Elt F) ((c : Thread nD τ).loc b) :=
  StableHlo.after hostOps0 (fun b => m (c, b)) b

/-- No host operation writes a buffer fresh. -/
theorem host_fresh : (hostOps0 : List (HloOp τ sig (Elt F))).Forall fun op => op.fresh = ∅ := by
  simp only [List.Forall]; repeat' constructor

set_option maxHeartbeats 800000 in
/-- The program up to the kernel is the host operations. -/
theorem host_main (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The host operations leave each argument as launched. -/
theorem V_arg0 (c : Dev nD) : V m c main_arg0 = m ((c : Thread nD τ).loc main_arg0) := by after_reads_simp
theorem V_arg1 (c : Dev nD) : V m c main_arg1 = m ((c : Thread nD τ).loc main_arg1) := by after_reads_simp
theorem V_arg2 (c : Dev nD) : V m c main_arg2 = m ((c : Thread nD τ).loc main_arg2) := by after_reads_simp
theorem V_arg3 (c : Dev nD) : V m c main_arg3 = m ((c : Thread nD τ).loc main_arg3) := by after_reads_simp
theorem V_arg4 (c : Dev nD) : V m c main_arg4 = m ((c : Thread nD τ).loc main_arg4) := by after_reads_simp

/-- Window `w`'s block at point `t`, read off its array as the kernel finds it. -/
def blkIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffers at point `t`, and the two scratch buffers. -/
abbrev st0 (t : Fin cfg0.N) : Memref sig .tc .vmem S8192x256 .f32 := win0_0.stage (cfg0.slots t 0)
abbrev st1 (t : Fin cfg0.N) : Memref sig .tc .vmem S4096x40 .f32 := win0_1.stage (cfg0.slots t 1)
abbrev st2 (t : Fin cfg0.N) : Memref sig .tc .vmem S4096x256 .f32 := win0_2.stage (cfg0.slots t 2)
abbrev st3 (t : Fin cfg0.N) : Memref sig .tc .vmem S8192x256 .f32 := win0_3.stage (cfg0.slots t 3)
abbrev scr0 : Memref sig .tc .vmem S4096x256 .f32 := Memref.whole cc0_scratch0
abbrev scr1 : Memref sig .tc .vmem S4096x256 .f32 := Memref.whole cc0_scratch1

/-- The pipeline's invariant spelled with the scratch buffers owned at some contents. -/
theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The body -/

-- (the run's proof term is large: checking it walks past the default budget)
set_option maxHeartbeats 1000000 in
/-- The body's triple: the inputs' buffers come back at their contents, the output and the scratch at some contents. -/
theorem body_run (c : Dev nD) (i : grid0.Coords) (arg1 : Memref sig .tc .vmem S8192x256 .f32) (harg1 : arg1.IsWhole) (arg2 : Memref sig .tc .vmem S4096x40 .f32) (harg2 : arg2.IsWhole) (arg3 : Memref sig .tc .vmem S4096x256 .f32) (harg3 : arg3.IsWhole) (arg4 : Memref sig .tc .vmem S8192x256 .f32) (harg4 : arg4.IsWhole) (arg5 : Memref sig .tc .vmem S4096x256 .f32) (harg5 : arg5.IsWhole) (arg6 : Memref sig .tc .vmem S4096x256 .f32) (harg6 : arg6.IsWhole)
    (x0 : Vec F S8192x256 .f32) (x1 : Vec F S4096x40 .f32) (x2 : Vec F S4096x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0__butterfly_body i arg1 harg1 arg2 harg2 arg3 harg3 arg4 harg4 arg5 harg5 arg6 harg6) K := by
  simp only [cc0__butterfly_body_eq_skeleton]; unfold cc0__butterfly_body_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _, _; isplitr; swap; · iexact H3
    ipureintro; rfl
  isplitl [HS0]
  · iexists _, _; isplitr; swap; · iexact HS0
    ipureintro; rfl
  iexists _, _; isplitr; swap; · iexact HS1
  ipureintro; rfl

/-- The output window: nothing of what the body leaves in it is named. -/
def unnamed3 : Fin 4 → Bool := fun w => w.val == 3

/-- The proof data: the arrays as the kernel finds them, each input's buffer at its block after the body,
    nothing named of the output. -/
def dats (_ : Fin 1) (c : Dev nD) : Dat τ (Elt F) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, h⟩ => Pipeline.Dat.unnamed (cfg := cfg0) ⟨3, h⟩ t
  Φ _ := Pipeline.ΦA spec0 c
  q _ := fullShare
  owed _ := 0

/-- The proof data's arrays are the contents at entry. -/
theorem A_eq (c : Dev nD) (w : Fin cfg0.W) : (dats m 0 c).A w = V m c (Pipeline.arrRef spec0 w) := by
  dsimp only [dats]

/-- What the body leaves in each input's buffer is the input's block. -/
theorem after_0 (c : Dev nD) (t : Fin cfg0.N) : (dats m 0 c).after 0 t = blkIn m c 0 t := by dsimp only [dats]
theorem after_1 (c : Dev nD) (t : Fin cfg0.N) : (dats m 0 c).after 1 t = blkIn m c 1 t := by dsimp only [dats]
theorem after_2 (c : Dev nD) (t : Fin cfg0.N) : (dats m 0 c).after 2 t = blkIn m c 2 t := by dsimp only [dats]

/-- Each input's buffer holds its block when the body starts, fetched at this point or not. -/
theorem before_0 (c : Dev nD) (t : Fin cfg0.N) (d) : (dats m 0 c).before 0 t d = blkIn m c 0 t :=
  ((dats m 0 c).before_in_eq_fetched 0 rfl (fun _ => rfl) (fun _ _ _ => rfl)
    (fun t => by rw [after_0]; unfold Dat.blockOf blkIn; rw [A_eq]) t d).trans
    (by unfold Dat.fetched Dat.blockOf blkIn; rw [A_eq]; try rfl)
theorem before_1 (c : Dev nD) (t : Fin cfg0.N) (d) : (dats m 0 c).before 1 t d = blkIn m c 1 t :=
  ((dats m 0 c).before_in_eq_fetched 1 rfl (fun _ => rfl) (fun _ _ _ => rfl)
    (fun t => by rw [after_1]; unfold Dat.blockOf blkIn; rw [A_eq]) t d).trans
    (by unfold Dat.fetched Dat.blockOf blkIn; rw [A_eq]; try rfl)
theorem before_2 (c : Dev nD) (t : Fin cfg0.N) (d) : (dats m 0 c).before 2 t d = blkIn m c 2 t :=
  ((dats m 0 c).before_in_eq_fetched 2 rfl (fun _ => rfl) (fun _ _ _ => rfl)
    (fun t => by rw [after_2]; unfold Dat.blockOf blkIn; rw [A_eq]) t d).trans
    (by unfold Dat.fetched Dat.blockOf blkIn; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ (∃ d, owns (c : Thread nD τ) (st3 t) fullShare d))

/-- The body at any point: the inputs' buffers hold their blocks, the invariant lends the scratch and takes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩⟩
  iapply ((body_run c (grid0.coords t) _ _ _ _ _ _ _ _ _ _ _ _ (blkIn m c 0 t) (blkIn m c 1 t) (blkIn m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t` is the body. -/
theorem row_eq (t : Fin cfg0.N) :
    defs₀ (F := F) .tc cfg0.body (cfg0.bodyArgs t (cfg0.slots t)) = bodyAt0 t := by
  unfold defs₀; rw [Defs.onTc_tc]

/-- The library's body obligation, at every point. -/
theorem obligation (c : Dev nD) : BodyObligation (dats (F := F) m 0 c) (defs₀ (F := F)) Variants.none () Set.univ unnamed3 := fun t => by
  rw [bigSep_W0, bigSep_W0, row_eq]
  exact triple_restated (sound_body m c t) rfl .rfl fun _ => .rfl

-- `θ_run_frame_forget`'s implicit arguments are found by unifying its conclusion with this one, which takes unfolding plain
-- definitions in a metavariable's type
set_option backward.isDefEq.respectTransparency.types false in
/-- The run: every fair execution ends, the input arrays unchanged, every counter at zero. -/
theorem run_all : θ_run defs (onTc (τ := τ) (main (F := F))) (s₀ m ρ) (fun r => (Pipeline.RDat.FramePost (cfgs 0) (fun c => (dats m 0 c).toRForget unnamed3) (V m)) r ∧ r.2.sem = fun _ => 0) :=
  Pipeline.θ_run_frame_forget (Q' := _) cfgs (dats m) (0 : Fin 1) launch0 defs₀ Variants.none unnamed3 m ρ main
    (hbody := fun c => (obligation m c).loose) (hshare := fun c => (dats m 0 c).share_full fun _ => rfl)
    (howed := fun _ _ => rfl) (V := V m) (hmain := host_main m Variants.none) (hA := A_eq m) (hΦ := fun _ _ => rfl)

/-- The frame: the arguments end as they were launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_arg0 m c)),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c)⟩, h.2⟩) (run_all m ρ)

end Cert.Kernel.Run

end
-- ==== Proof.Layers.lean ====
module

public import Idealize.ShloMosaic.Lib.Pipeline.ValueKit

@[expose] public section

noncomputable section

/-! # What the kernel's body computes, one column at a time

A column is a function of the row number.  The parameter table is a function of row and column
number, and so is the table of input-stage weights. -/

namespace Butterfly

open Idealize.ShloMosaic Idealize.ShloMosaic.Tactic

/-- The element of a matrix at a row and a column number; 0 outside the matrix. -/
def at2 {n m : ℕ} (X : (⟨2, ![n, m]⟩ : Shape).Idx → EReal) (r j : ℕ) : EReal :=
  if h : r < n ∧ j < m then X (ix2 ⟨r, h.1⟩ ⟨j, h.2⟩) else 0

/-- The element of a vector at a position; 0 outside the vector. -/
def at1 {n : ℕ} (X : (⟨1, ![n]⟩ : Shape).Idx → EReal) (r : ℕ) : EReal :=
  if h : r < n then X (ix1 ⟨r, h⟩) else 0

/-- Inside the matrix. -/
theorem at2_in {n m : ℕ} (X : (⟨2, ![n, m]⟩ : Shape).Idx → EReal) {r j : ℕ} (hr : r < n) (hj : j < m) :
    at2 X r j = X (ix2 ⟨r, hr⟩ ⟨j, hj⟩) := dif_pos ⟨hr, hj⟩

/-- Below its last row. -/
theorem at2_below {n m : ℕ} (X : (⟨2, ![n, m]⟩ : Shape).Idx → EReal) {r : ℕ} (j : ℕ) (hr : ¬ r < n) :
    at2 X r j = 0 := dif_neg fun h => hr h.1

/-- Inside a vector. -/
theorem at1_in {n : ℕ} (X : (⟨1, ![n]⟩ : Shape).Idx → EReal) {r : ℕ} (hr : r < n) :
    at1 X r = X (ix1 ⟨r, hr⟩) := dif_pos hr

/-- A matrix read at an index is the matrix read at the index's two numbers. -/
theorem eq_at2 {n m : ℕ} (X : (⟨2, ![n, m]⟩ : Shape).Idx → EReal) (i : (⟨2, ![n, m]⟩ : Shape).Idx) :
    X i = at2 X (i 0).val (i 1).val := by
  unfold at2
  rw [dif_pos ⟨(i 0).isLt, (i 1).isLt⟩]
  exact congrArg X (ix2_eta i).symm

/-- The same at an index given by its coordinates' numbers. -/
theorem eq_at2_of {n m : ℕ} (X : (⟨2, ![n, m]⟩ : Shape).Idx → EReal) (i : (⟨2, ![n, m]⟩ : Shape).Idx) {r j : ℕ}
    (hr : (i 0).val = r) (hj : (i 1).val = j) : X i = at2 X r j := by
  rw [eq_at2 X i, hr, hj]

/-- A vector read at an index is the vector read at the index's number. -/
theorem eq_at1 {n : ℕ} (X : (⟨1, ![n]⟩ : Shape).Idx → EReal) (i : (⟨1, ![n]⟩ : Shape).Idx) :
    X i = at1 X (i 0).val := by
  have h : (i 0).val < n := (i 0).isLt
  unfold at1
  rw [dif_pos h]
  exact congrArg X (ix1_eta i).symm

/-- The row that lands on row `r` when each group of `n` rows is rotated up by `s`. -/
def up (n s r : ℕ) : ℕ := n * (r / n) + (r % n + s) % n

/-- The row that lands on row `r` when each group of `n` rows is rotated down by `s`. -/
def dn (n s r : ℕ) : ℕ := n * (r / n) + (r % n + (n - s)) % n

/-- The row that a rotation layer of step `s` pairs with row `r`. -/
def partner (s r : ℕ) : ℕ := if r / s % 2 = 0 then r + s else r - s

/-- A layer inside groups of `n` rows: the row itself and its two rotated neighbours, each with its factor. -/
def near (n s : ℕ) (c p m x : ℕ → EReal) (r : ℕ) : EReal :=
  c r * x r + p r * x (up n s r) + m r * x (dn n s r)

/-- A layer between groups: the row itself and the row paired with it. -/
def far (s : ℕ) (c p m x : ℕ → EReal) (r : ℕ) : EReal := c r * x r + (p r + m r) * x (partner s r)

/-- The input stage: each group of 256 rows multiplied by its block of weights. -/
def mix (w : ℕ → ℕ → EReal) (x : ℕ → EReal) (r : ℕ) : EReal := ∑ k : Fin 256, w r k * x (256 * (r / 256) + k)

/-- The activation, blended in by a mask. -/
def act (b m x : ℕ → EReal) (r : ℕ) : EReal := x r + m r * (Ideal.sqrt (x r * x r + 1) - 1 + b r - x r)

/-- The column of a table. -/
def col (p : ℕ → ℕ → EReal) (l r : ℕ) : EReal := p r l

/-- Layer number `l` of the body, of the kind that stays inside a group of 512 rows. -/
def nearL (p : ℕ → ℕ → EReal) (l s : ℕ) (x : ℕ → EReal) : ℕ → EReal :=
  near 512 s (col p l) (col p (12 + l)) (col p (24 + l)) x

/-- Layer number `l` of the body, of the kind that pairs groups of 512 rows. -/
def farL (p : ℕ → ℕ → EReal) (l s : ℕ) (x : ℕ → EReal) : ℕ → EReal :=
  far s (col p l) (col p (12 + l)) (col p (24 + l)) x

/-- What the body's first loop leaves: the input stage, the activation and layers 6, 7 and 8. -/
def first (p w : ℕ → ℕ → EReal) (x : ℕ → EReal) : ℕ → EReal :=
  nearL p 8 256 (nearL p 7 128 (nearL p 6 64 (act (col p 36) (col p 37) (mix w x))))

/-- The whole column: `first`, then layers 9, 10 and 11. -/
def column (p w : ℕ → ℕ → EReal) (x : ℕ → EReal) : ℕ → EReal :=
  farL p 11 2048 (farL p 10 1024 (farL p 9 512 (first p w x)))

end Butterfly
end
-- ==== Proof.Payload.lean ====
module

public import proofs.«01_k».proof.Proof.Gen.KernelIdeal.Skeleton
public import proofs.«01_k».proof.Proof.Layers
public import Idealize.ShloMosaic.Lib.Pipeline.ValueKit

@[expose] public section

set_option maxRecDepth 16384

noncomputable section

/-! # The stored values of the body, element by element -/

namespace Cert.KernelIdeal.Payload

open Cert.KernelIdeal.Gen Butterfly
open Idealize.ShloMosaic Idealize.ShloMosaic.TcCoe Idealize.ShloMosaic.Tactic

/-- What the second loop stores, at an element. -/
theorem pay2_apply (v8 : Vec Ideal S512x256 .f32) (v10 v13 v16 : Vec Ideal S512x1 .f32) (v21 : Vec Ideal S512x256 .f32)
    (i : S512x256.Idx) :
    k0_pay2 v8 v10 v13 v16 v21 i = v10 (ix2 (i 0) 0) * v8 i + (v13 (ix2 (i 0) 0) + v16 (ix2 (i 0) 0)) * v21 i := by
  unfold k0_pay2
  pointwise

/-- The third loop stores the same expression. -/
theorem pay3_eq (v8 : Vec Ideal S512x256 .f32) (v10 v13 v16 : Vec Ideal S512x1 .f32) (v21 : Vec Ideal S512x256 .f32) :
    k0_pay3 v8 v10 v13 v16 v21 = k0_pay2 v8 v10 v13 v16 v21 := rfl

/-- The fourth loop stores the same values. -/
theorem pay4_eq (v8 : Vec Ideal S512x256 .f32) (v10 v13 v16 : Vec Ideal S512x1 .f32) (v21 : Vec Ideal S512x256 .f32) :
    k0_pay4 v8 v10 v13 v16 v21 = k0_pay2 v8 v10 v13 v16 v21 := by
  funext i
  rw [pay2_apply]
  unfold k0_pay4
  pointwise

/-- The identity casts of the first loop's columns. -/
theorem casts_eq (v : Vec Ideal S512x1 .f32) :
    k0_pay6 v = v ∧ k0_pay7 v = v ∧ k0_pay9 v = v ∧ k0_pay10 v = v ∧ k0_pay11 v = v := by
  refine ⟨?_, ?_, ?_, ?_, ?_⟩ <;> funext i <;>
    simp only [k0_pay6, k0_pay7, k0_pay9, k0_pay10, k0_pay11] <;> pointwise

/-- The input stage and the activation of chunk `k`, at an element. -/
theorem pay5_apply (k j : ℕ) (p w : ℕ → ℕ → EReal) (x : ℕ → EReal)
    (v8 : Vec Ideal S512x256 .f32) (v12 v19 : Vec Ideal S256x256 .f32) (v25 v28 : Vec Ideal S512x1 .f32)
    (h8 : ∀ i : S512x256.Idx, (i 1).val = j → v8 i = x (512 * k + (i 0).val))
    (h12 : ∀ i : S256x256.Idx, v12 i = w (512 * k + (i 0).val) (i 1).val)
    (h19 : ∀ i : S256x256.Idx, v19 i = w (512 * k + 256 + (i 0).val) (i 1).val)
    (h25 : ∀ i : S512x1.Idx, v25 i = p (512 * k + (i 0).val) 36)
    (h28 : ∀ i : S512x1.Idx, v28 i = p (512 * k + (i 0).val) 37)
    (i : S512x256.Idx) (hj : (i 1).val = j) :
    k0_pay5 v8 v12 v19 v25 v28 i = act (col p 36) (col p 37) (mix w x) (512 * k + (i 0).val) := by
  have hi : (i 0).val < 512 := (i 0).isLt
  have hm : (if h : (i 0).val < 256 then ∑ q : Fin 256, v12 (ix2 ⟨(i 0).val, h⟩ q) * v8 (ix2 ⟨q.val, by omega⟩ (i 1))
      else ∑ q : Fin 256, v19 (ix2 ⟨(i 0).val - 256, by omega⟩ q) * v8 (ix2 ⟨256 + q.val, by omega⟩ (i 1)))
      = mix w x (512 * k + (i 0).val) := by
    unfold mix
    split
    · refine Finset.sum_congr rfl fun q _ => ?_
      rw [h12, h8 _ (by simpa using hj)]
      have e : 256 * ((512 * k + (i 0).val) / 256) + q.val = 512 * k + q.val := by omega
      rw [e]
      rfl
    · refine Finset.sum_congr rfl fun q _ => ?_
      rw [h19, h8 _ (by simpa using hj)]
      have e : 256 * ((512 * k + (i 0).val) / 256) + q.val = 512 * k + (256 + q.val) := by omega
      have e' : 512 * k + 256 + ((i 0).val - 256) = 512 * k + (i 0).val := by omega
      rw [e, ← e']
      rfl
  unfold k0_pay5
  pointwise
  rw [hm, h25, h28]
  rfl

/-- One layer inside a chunk: a row, its rotated neighbours and three columns of factors. -/
theorem near_chunk (k s l j : ℕ) (p : ℕ → ℕ → EReal) (x : ℕ → EReal) (y : Vec Ideal S512x256 .f32) (hs : s ≤ 512)
    (hy : ∀ i : S512x256.Idx, (i 1).val = j → y i = x (512 * k + (i 0).val)) (i : S512x256.Idx) (hj : (i 1).val = j)
    (c a b : Vec Ideal S512x1 .f32)
    (hc : ∀ i : S512x1.Idx, c i = p (512 * k + (i 0).val) l)
    (ha : ∀ i : S512x1.Idx, a i = p (512 * k + (i 0).val) (12 + l))
    (hb : ∀ i : S512x1.Idx, b i = p (512 * k + (i 0).val) (24 + l))
    (u d : S512x256.Idx) (hu0 : (u 0).val = ((i 0).val + s) % 512) (hd0 : (d 0).val = ((i 0).val + (512 - s)) % 512)
    (hu1 : (u 1).val = j) (hd1 : (d 1).val = j) :
    c (ix2 (i 0) 0) * y i + a (ix2 (i 0) 0) * y u + b (ix2 (i 0) 0) * y d = nearL p l s x (512 * k + (i 0).val) := by
  have hi : (i 0).val < 512 := (i 0).isLt
  have h1 : up 512 s (512 * k + (i 0).val) = 512 * k + (u 0).val := by unfold up; omega
  have h2 : dn 512 s (512 * k + (i 0).val) = 512 * k + (d 0).val := by unfold dn; omega
  rw [hc, ha, hb, hy i hj, hy u hu1, hy d hd1]
  unfold nearL near col
  rw [h1, h2]
  rfl

/-- The index `s` rows further down the chunk, round its end. -/
def down (s : ℕ) (i : S512x256.Idx) : S512x256.Idx :=
  ix2 (n0 := 512) (n1 := 256) ⟨((i 0).val + s) % 512, Nat.mod_lt _ (by decide)⟩ (i 1)

/-- Rotating a chunk up by 64 rows. -/
theorem rot64 (y : FVec Ideal S512x256 .f32) :
    concatenate S512x256 0 [⟨S448x256, extractStridedSlice S448x256 ![64, 0] y slices_S512x256_o64_0_S448x256⟩,
      ⟨S64x256, extractStridedSlice S64x256 ![0, 0] y slices_S512x256_o0_0_S64x256⟩] concatenates_S448x256_S64x256_S512x256_d0
      = fun i => y (down 64 i) := by
  funext i
  have hi : (i 0).val < 512 := (i 0).isLt
  pointwise
  unfold down
  split <;> (congr 2; apply Fin.ext; dsimp only; omega)

/-- Rotating a chunk down by 64 rows. -/
theorem rot448 (y : FVec Ideal S512x256 .f32) :
    concatenate S512x256 0 [⟨S64x256, extractStridedSlice S64x256 ![448, 0] y slices_S512x256_o448_0_S64x256⟩,
      ⟨S448x256, extractStridedSlice S448x256 ![0, 0] y slices_S512x256_o0_0_S448x256⟩] concatenates_S64x256_S448x256_S512x256_d0
      = fun i => y (down 448 i) := by
  funext i
  have hi : (i 0).val < 512 := (i 0).isLt
  pointwise
  unfold down
  split <;> (congr 2; apply Fin.ext; dsimp only; omega)

/-- Rotating a chunk up by 128 rows. -/
theorem rot128 (y : FVec Ideal S512x256 .f32) :
    concatenate S512x256 0 [⟨S384x256, extractStridedSlice S384x256 ![128, 0] y slices_S512x256_o128_0_S384x256⟩,
      ⟨S128x256, extractStridedSlice S128x256 ![0, 0] y slices_S512x256_o0_0_S128x256⟩] concatenates_S384x256_S128x256_S512x256_d0
      = fun i => y (down 128 i) := by
  funext i
  have hi : (i 0).val < 512 := (i 0).isLt
  pointwise
  unfold down
  split <;> (congr 2; apply Fin.ext; dsimp only; omega)

/-- Rotating a chunk down by 128 rows. -/
theorem rot384 (y : FVec Ideal S512x256 .f32) :
    concatenate S512x256 0 [⟨S128x256, extractStridedSlice S128x256 ![384, 0] y slices_S512x256_o384_0_S128x256⟩,
      ⟨S384x256, extractStridedSlice S384x256 ![0, 0] y slices_S512x256_o0_0_S384x256⟩] concatenates_S128x256_S384x256_S512x256_d0
      = fun i => y (down 384 i) := by
  funext i
  have hi : (i 0).val < 512 := (i 0).isLt
  pointwise
  unfold down
  split <;> (congr 2; apply Fin.ext; dsimp only; omega)

/-- Swapping the two halves of a chunk, which is rotating it either way by 256 rows. -/
theorem rot256 (y : FVec Ideal S512x256 .f32) :
    concatenate S512x256 0 [⟨S256x256, extractStridedSlice S256x256 ![256, 0] y slices_S512x256_o256_0_S256x256⟩,
      ⟨S256x256, extractStridedSlice S256x256 ![0, 0] y slices_S512x256_o0_0_S256x256⟩] concatenates_S256x256_S256x256_S512x256_d0
      = fun i => y (down 256 i) := by
  funext i
  have hi : (i 0).val < 512 := (i 0).isLt
  pointwise
  unfold down
  split <;> (congr 2; apply Fin.ext; dsimp only; omega)

/-- Layers 6 and 7 of chunk `k`, at an element. -/
theorem pay8_apply (k j : ℕ) (p : ℕ → ℕ → EReal) (x : ℕ → EReal)
    (v41 : FVec Ideal S512x256 .f32) (v44 v47 : FVec Ideal S512x1 .f32) (v49 v66 v69 v72 : Vec Ideal S512x1 .f32)
    (h41 : ∀ i : S512x256.Idx, (i 1).val = j → v41 i = x (512 * k + (i 0).val))
    (h44 : ∀ i : S512x1.Idx, v44 i = p (512 * k + (i 0).val) 6)
    (h47 : ∀ i : S512x1.Idx, v47 i = p (512 * k + (i 0).val) 18)
    (h49 : ∀ i : S512x1.Idx, v49 i = p (512 * k + (i 0).val) 30)
    (h66 : ∀ i : S512x1.Idx, v66 i = p (512 * k + (i 0).val) 7)
    (h69 : ∀ i : S512x1.Idx, v69 i = p (512 * k + (i 0).val) 19)
    (h72 : ∀ i : S512x1.Idx, v72 i = p (512 * k + (i 0).val) 31)
    (i : S512x256.Idx) (hj : (i 1).val = j) :
    k0_pay8 v41 v44 v47 v49 v66 v69 v72 i = nearL p 7 128 (nearL p 6 64 x) (512 * k + (i 0).val) := by
  simp only [k0_pay8, rot64, rot448, rot128, rot384]
  pointwise
  refine near_chunk k 128 7 j p (nearL p 6 64 x)
    (fun i => v44 (ix2 (i 0) 0) * v41 i + v47 (ix2 (i 0) 0) * v41 (down 64 i) + v49 (ix2 (i 0) 0) * v41 (down 448 i))
    (by decide) (fun i hj => ?_) i hj v66 v69 v72 h66 h69 h72 (down 128 i) (down 384 i) rfl rfl hj hj
  exact near_chunk k 64 6 j p x v41 (by decide) h41 i hj v44 v47 v49 h44 h47 h49 (down 64 i) (down 448 i) rfl rfl hj hj

/-- What the first loop stores of chunk `k`, at an element: layer 8 over a chunk `y` and its two rotations. -/
theorem pay1_apply (k j : ℕ) (p : ℕ → ℕ → EReal) (x : ℕ → EReal)
    (y u d : FVec Ideal S512x256 .f32) (v90 v93 v96 : FVec Ideal S512x1 .f32)
    (hu : u = fun i => y (down 256 i)) (hd : d = fun i => y (down 256 i))
    (hy : ∀ i : S512x256.Idx, (i 1).val = j → y i = x (512 * k + (i 0).val))
    (h90 : ∀ i : S512x1.Idx, v90 i = p (512 * k + (i 0).val) 8)
    (h93 : ∀ i : S512x1.Idx, v93 i = p (512 * k + (i 0).val) 20)
    (h96 : ∀ i : S512x1.Idx, v96 i = p (512 * k + (i 0).val) 32)
    (i : S512x256.Idx) (hj : (i 1).val = j) :
    k0_pay1 y v90 v93 v96 u d i = nearL p 8 256 x (512 * k + (i 0).val) := by
  subst hu hd
  unfold k0_pay1
  pointwise
  exact near_chunk k 256 8 j p x y (by decide) hy i hj v90 v93 v96 h90 h93 h96 (down 256 i) (down 256 i) rfl rfl hj hj

/-- The two rotated chunks of layer 8. -/
theorem pay12_eq (v41 : FVec Ideal S512x256 .f32) (v44 v47 : FVec Ideal S512x1 .f32) (v49 v66 v69 v72 : Vec Ideal S512x1 .f32) :
    k0_pay12 v41 v44 v47 v49 v66 v69 v72 = (fun i => k0_pay8 v41 v44 v47 v49 v66 v69 v72 (down 256 i)) ∧
    k0_pay13 v41 v44 v47 v49 v66 v69 v72 = (fun i => k0_pay8 v41 v44 v47 v49 v66 v69 v72 (down 256 i)) :=
  ⟨rot256 _, rot256 _⟩

end Cert.KernelIdeal.Payload
end
-- ==== Proof.Pieces.lean ====
module

public import proofs.«01_k».proof.Proof.Layers
public import Idealize.ShloMosaic.Lib.Pipeline.FrameBody
public import Idealize.ShloMosaic.Lib.Pipeline.ReadBack
public import Idealize.ShloMosaic.Lib.Pipeline.ValueKit

@[expose] public section

noncomputable section

/-! # Buffers written chunk by chunk

A loop that writes one chunk of 512 rows a trip leaves, whatever the buffer held before, the function whose
blocks its pieces are. -/

namespace Butterfly

open Idealize.ShloMosaic Idealize.ShloMosaic.Tactic Idealize.ShloMosaic.View

variable {n : ℕ}

/-- The pieces `L` hold values of `G`, and they cover the 512 rows from row `b` on. -/
def Chunk (G : (⟨2, ![n, 256]⟩ : Shape).Idx → Elt Ideal .f32) (b : ℕ)
    (L : List (Piece (Elt Ideal) (⟨2, ![n, 256]⟩ : Shape) .f32)) : Prop :=
  PiecesOf G L ∧ ∀ y : (⟨2, ![n, 256]⟩ : Shape).Idx, b ≤ (y 0).val → (y 0).val < b + 512 → ∃ p ∈ L, y ∈ p.1.set

/-- Pieces of the same function, one list after the other. -/
theorem piecesOf_append {G : (⟨2, ![n, 256]⟩ : Shape).Idx → Elt Ideal .f32} :
    ∀ {L L' : List (Piece (Elt Ideal) (⟨2, ![n, 256]⟩ : Shape) .f32)}, PiecesOf G L → PiecesOf G L' → PiecesOf G (L ++ L')
  | [], _, _, h' => h'
  | _ :: _, _, h, h' => ⟨h.1, piecesOf_append h.2 h'⟩

/-- One stored rectangle of 512 full rows is a chunk. -/
theorem chunk_single (G : (⟨2, ![n, 256]⟩ : Shape).Idx → Elt Ideal .f32) (b : ℕ) (off : Fin 2 → ℕ) (h0 : off 0 = b) (h1 : off 1 = 0)
    (inb : ∀ a, off a + (![512, 256] : Fin 2 → ℕ) a ≤ (⟨2, ![n, 256]⟩ : Shape).size a)
    (pay : (⟨2, ![512, 256]⟩ : Shape).Idx → Elt Ideal .f32)
    (h : ∀ (x : (⟨2, ![512, 256]⟩ : Shape).Idx) (y : (⟨2, ![n, 256]⟩ : Shape).Idx),
      (y 0).val = b + (x 0).val → (y 1).val = (x 1).val → pay x = G y) :
    Chunk G b [⟨Rect.unit (s := ⟨2, ![n, 256]⟩) off ![512, 256] inb, pay⟩] := by
  refine ⟨⟨fun x => h x _ ?_ ?_, trivial⟩, fun y hy hy' => ⟨_, List.mem_singleton.mpr rfl, ?_⟩⟩
  · have := Rect.idx_unit_val (s := ⟨2, ![n, 256]⟩) off ![512, 256] inb x 0
    rw [← h0]; exact this
  · have := Rect.idx_unit_val (s := ⟨2, ![n, 256]⟩) off ![512, 256] inb x 1
    rw [h1, Nat.zero_add] at this; exact this
  · rw [Rect.mem_set_unit]
    have y1 : (y 1).val < 256 := (y 1).isLt
    intro a
    fin_cases a
    · exact ⟨by simpa [h0] using hy, by simpa [h0] using hy'⟩
    · exact ⟨by simp [h1], by simpa [h1] using y1⟩

/-- The trips' pieces together: pieces of `G`. -/
theorem steps_pieces {N : ℕ} (G : (⟨2, ![n, 256]⟩ : Shape).Idx → Elt Ideal .f32)
    (pb : ℕ → List (Piece (Elt Ideal) (⟨2, ![n, 256]⟩ : Shape) .f32)) (tr : Fin N → List (Piece (Elt Ideal) (⟨2, ![n, 256]⟩ : Shape) .f32))
    (b : ℕ → ℕ) (h0 : pb 0 = []) (hs : ∀ k : Fin N, pb (k.val + 1) = tr k ++ pb k.val) (ht : ∀ k : Fin N, Chunk G (b k.val) (tr k)) :
    ∀ k ≤ N, PiecesOf G (pb k) ∧ ∀ k' < k, ∀ y : (⟨2, ![n, 256]⟩ : Shape).Idx, b k' ≤ (y 0).val → (y 0).val < b k' + 512 → ∃ p ∈ pb k, y ∈ p.1.set
  | 0, _ => ⟨by rw [h0]; trivial, fun k' h => absurd h (Nat.not_lt_zero _)⟩
  | k + 1, hk => by
    have ih := steps_pieces G pb tr b h0 hs ht k (by omega)
    have e := hs ⟨k, hk⟩
    dsimp only at e
    rw [e]
    refine ⟨piecesOf_append (ht ⟨k, hk⟩).1 ih.1, fun k' h y h1 h2 => ?_⟩
    rcases Nat.lt_succ_iff_lt_or_eq.mp h with h | h
    · obtain ⟨p, hp, hy⟩ := ih.2 k' h y h1 h2
      exact ⟨p, List.mem_append_right _ hp, hy⟩
    · subst h
      obtain ⟨p, hp, hy⟩ := (ht ⟨k', hk⟩).2 y h1 h2
      exact ⟨p, List.mem_append_left _ hp, hy⟩

/-- A buffer read after pieces of `G` that cover it, written over anything. -/
theorem read_pieces {sig : RefSig} {κ : Kind} {sp : Space} (v : View sig κ sp (⟨2, ![n, 256]⟩ : Shape) .f32) (f : v.ty.Contents (Elt Ideal))
    (G : (⟨2, ![n, 256]⟩ : Shape).Idx → Elt Ideal .f32) (L L' : List (Piece (Elt Ideal) (⟨2, ![n, 256]⟩ : Shape) .f32))
    (h : PiecesOf G L) (hc : ∀ y : (⟨2, ![n, 256]⟩ : Shape).Idx, ∃ p ∈ L, y ∈ p.1.set) :
    v.read (Elt Ideal) (v.writes (Elt Ideal) f (L ++ L')) = G := by
  rw [View.read_writes_eq_canon v f (L ++ L') fun y => ?_]
  · funext y
    exact View.canon_append_of_piecesOf G L' L h y (hc y)
  · obtain ⟨p, hp, hy⟩ := hc y
    exact ⟨p, List.mem_append_left _ hp, hy⟩

/-- A rectangle of a matrix, loaded and read at an index. -/
theorem ld_at2 {n m a b : ℕ} (X : (⟨2, ![n, m]⟩ : Shape).Idx → Elt Ideal .f32) (off : Fin 2 → ℕ)
    (inb : ∀ d, off d + (![a, b] : Fin 2 → ℕ) d ≤ (⟨2, ![n, m]⟩ : Shape).size d) (i : (⟨2, ![a, b]⟩ : Shape).Idx) {r j : ℕ}
    (hr : off 0 + (i 0).val = r) (hj : off 1 + (i 1).val = j) :
    View.ld (Val := Elt Ideal) (e' := .f32) X (Rect.unit (s := ⟨2, ![n, m]⟩) off ![a, b] inb) i = at2 X r j := by
  exact eq_at2_of X _ ((Rect.idx_unit_val (s := ⟨2, ![n, m]⟩) off ![a, b] inb i 0).trans hr)
    ((Rect.idx_unit_val (s := ⟨2, ![n, m]⟩) off ![a, b] inb i 1).trans hj)

end Butterfly
end
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Payload
public import proofs.«01_k».proof.Proof.Pieces
public import Idealize.ShloMosaic.Lib.Pipeline.FrameBody
public import Idealize.ShloMosaic.Lib.Pipeline.ReadBack
public import Idealize.ShloMosaic.Lib.Pipeline.ValueKit

@[expose] public section

set_option maxRecDepth 16384

noncomputable section

/-! # What each loop of the body leaves in its buffer -/

namespace Cert.KernelIdeal.Body

open Cert.KernelIdeal.Gen Cert.KernelIdeal.Payload Butterfly
open Idealize.ShloMosaic Idealize.ShloMosaic.TcCoe Idealize.ShloMosaic.Tactic

/-- A family of columns as a matrix: the function `T` of each column of `X`. -/
def colwise {n n' : ℕ} (T : (ℕ → EReal) → ℕ → EReal) (X : (⟨2, ![n, 256]⟩ : Shape).Idx → EReal) :
    (⟨2, ![n', 256]⟩ : Shape).Idx → EReal :=
  fun y => T (fun r => at2 X r (y 1).val) (y 0).val

/-- Reading a matrix that is given column by column, inside its bounds. -/
theorem at2_colwise {n n' : ℕ} (T : (ℕ → EReal) → ℕ → EReal) (X : (⟨2, ![n, 256]⟩ : Shape).Idx → EReal) (r j : ℕ)
    (hr : r < n') (hj : j < 256) : at2 (colwise (n' := n') T X) r j = T (fun r => at2 X r j) r := by
  unfold at2
  rw [dif_pos ⟨hr, hj⟩]
  rfl

/-- The first row of trip `k`'s chunk, as the loops compute it. -/
theorem row0 : ∀ k : Fin 8, BitVec.toNat (Scalar.indexCast (Scalar.muli (Scf.iv 0#32 1#32 k.val) 512#32)) = 512 * k.val := by
  decide +kernel

/-- The chunk that a layer of step `s` reads beside its own, for a step that is a number of chunks. -/
theorem partner_chunk {s : ℕ} (hs : s = 512 ∨ s = 1024 ∨ s = 2048) (k q : ℕ) (hq : q < 512) :
    partner s (512 * k + q) = partner s (512 * k) + q := by
  unfold partner
  rcases hs with rfl | rfl | rfl <;> (split <;> split <;> omega)

/-- One chunk of a layer between chunks. -/
theorem far_chunk (l s k : ℕ) (hs : s = 512 ∨ s = 1024 ∨ s = 2048) (P : S4096x40.Idx → EReal) (Y : S4096x256.Idx → EReal)
    (o oc oa ob op : Fin 2 → ℕ)
    (ho : ∀ a, o a + (![512, 256] : Fin 2 → ℕ) a ≤ S4096x256.size a) (hop : ∀ a, op a + (![512, 256] : Fin 2 → ℕ) a ≤ S4096x256.size a)
    (hoc : ∀ a, oc a + (![512, 1] : Fin 2 → ℕ) a ≤ S4096x40.size a) (hoa : ∀ a, oa a + (![512, 1] : Fin 2 → ℕ) a ≤ S4096x40.size a)
    (hob : ∀ a, ob a + (![512, 1] : Fin 2 → ℕ) a ≤ S4096x40.size a)
    (eo : o 0 = 512 * k ∧ o 1 = 0) (ec : oc 0 = 512 * k ∧ oc 1 = l) (ea : oa 0 = 512 * k ∧ oa 1 = 12 + l)
    (eb : ob 0 = 512 * k ∧ ob 1 = 24 + l) (ep : op 0 = partner s (512 * k) ∧ op 1 = 0) (x : S512x256.Idx) :
    k0_pay2 (F := Ideal) (View.ld (Val := Elt Ideal) (e' := .f32) Y (Rect.unit (s := S4096x256) o ![512, 256] ho))
      (View.ld (Val := Elt Ideal) (e' := .f32) P (Rect.unit (s := S4096x40) oc ![512, 1] hoc))
      (View.ld (Val := Elt Ideal) (e' := .f32) P (Rect.unit (s := S4096x40) oa ![512, 1] hoa))
      (View.ld (Val := Elt Ideal) (e' := .f32) P (Rect.unit (s := S4096x40) ob ![512, 1] hob))
      (View.ld (Val := Elt Ideal) (e' := .f32) Y (Rect.unit (s := S4096x256) op ![512, 256] hop)) x
      = farL (at2 P) l s (fun r => at2 Y r (x 1).val) (512 * k + (x 0).val) := by
  have hx : (x 0).val < 512 := (x 0).isLt
  rw [pay2_apply]
  unfold farL far col
  rw [partner_chunk hs k _ hx]
  congr 2
  · exact ld_at2 P oc hoc _ (by rw [ec.1]; rfl) (by rw [ec.2]; rfl)
  · exact ld_at2 Y o ho _ (by rw [eo.1]) (by rw [eo.2, Nat.zero_add])
  · congr 1
    · exact ld_at2 P oa hoa _ (by rw [ea.1]; rfl) (by rw [ea.2]; rfl)
    · exact ld_at2 P ob hob _ (by rw [eb.1]; rfl) (by rw [eb.2]; rfl)
  · exact ld_at2 Y op hop _ (by rw [ep.1]) (by rw [ep.2, Nat.zero_add])

/-- A layer between chunks reads its column at two rows only. -/
theorem farL_congr {p : ℕ → ℕ → EReal} {l s r : ℕ} {x x' : ℕ → EReal} (h : x r = x' r) (h' : x (partner s r) = x' (partner s r)) :
    farL p l s x r = farL p l s x' r := by
  unfold farL far
  rw [h, h']

/-- The paired row lies in the column too. -/
theorem partner_lt {s r : ℕ} (hs : s = 512 ∨ s = 1024 ∨ s = 2048) (hr : r < 4096) : partner s r < 4096 := by
  unfold partner
  rcases hs with rfl | rfl | rfl <;> (split <;> omega)

/-- What the body leaves in its output block. -/
def out (X0 : S8192x256.Idx → EReal) (P : S4096x40.Idx → EReal) (W : S4096x256.Idx → EReal) : S8192x256.Idx → EReal :=
  fun y => if (y 0).val < 4096 then column (at2 P) (at2 W) (fun r => at2 X0 r (y 1).val) (y 0).val else X0 y

/-- The upper half of the output block, as layer 11 over what loop 3 left. -/
theorem out_upper (X0 : S8192x256.Idx → EReal) (P : S4096x40.Idx → EReal) (W : S4096x256.Idx → EReal) (y : S8192x256.Idx)
    (hy : (y 0).val < 4096) :
    out X0 P W y = farL (at2 P) 11 2048 (fun r => at2 (n := 4096) (m := 256) (colwise (farL (at2 P) 10 1024)
      (colwise (n' := 4096) (farL (at2 P) 9 512) (colwise (n' := 4096) (first (at2 P) (at2 W)) X0))) r (y 1).val) (y 0).val := by
  have hj : (y 1).val < 256 := (y 1).isLt
  have l9 : ∀ r < 4096, at2 (n := 4096) (m := 256) (colwise (farL (at2 P) 9 512) (colwise (n' := 4096) (first (at2 P) (at2 W)) X0)) r (y 1).val
      = farL (at2 P) 9 512 (first (at2 P) (at2 W) (fun r => at2 X0 r (y 1).val)) r := fun r hr => by
    rw [at2_colwise _ _ r _ hr hj]
    exact farL_congr (at2_colwise _ _ _ _ hr hj) (at2_colwise _ _ _ _ (partner_lt (by decide) hr) hj)
  have l10 : ∀ r < 4096, at2 (n := 4096) (m := 256) (colwise (farL (at2 P) 10 1024)
        (colwise (n' := 4096) (farL (at2 P) 9 512) (colwise (n' := 4096) (first (at2 P) (at2 W)) X0))) r (y 1).val
      = farL (at2 P) 10 1024 (farL (at2 P) 9 512 (first (at2 P) (at2 W) (fun r => at2 X0 r (y 1).val))) r := fun r hr => by
    rw [at2_colwise _ _ r _ hr hj]
    exact farL_congr (l9 _ hr) (l9 _ (partner_lt (by decide) hr))
  unfold out column
  rw [if_pos hy]
  exact (farL_congr (l := 11) (s := 2048) (l10 (y 0).val hy) (l10 (partner 2048 (y 0).val) (partner_lt (by decide) hy))).symm

/-- Every row below 4096 lies in one of eight chunks. -/
theorem chunk_of (r : ℕ) (b : ℕ) (h : b ≤ r) (hr : r < b + 4096) : (r - b) / 512 < 8 ∧ b + 512 * ((r - b) / 512) ≤ r ∧ r < b + 512 * ((r - b) / 512) + 512 := by
  omega

section
variable (c : Dev nD) (i : grid0.Coords)
  (arg1 : Memref sig .tc .vmem S8192x256 .f32) (harg1 : arg1.IsWhole) (arg2 : Memref sig .tc .vmem S4096x40 .f32) (harg2 : arg2.IsWhole)
  (arg3 : Memref sig .tc .vmem S4096x256 .f32) (harg3 : arg3.IsWhole) (arg4 : Memref sig .tc .vmem S8192x256 .f32) (harg4 : arg4.IsWhole)
  (arg5 : Memref sig .tc .vmem S4096x256 .f32) (harg5 : arg5.IsWhole) (arg6 : Memref sig .tc .vmem S4096x256 .f32) (harg6 : arg6.IsWhole)

/-- Trip `k` of loop 2: a chunk of layer 9. -/
theorem trip2 (P : S4096x40.Idx → EReal) (Y : S4096x256.Idx → EReal)
    (X2 : BufTy.Contents (Elt Ideal) arg2.view.ty) (X : BufTy.Contents (Elt Ideal) arg5.view.ty)
    (h2 : arg2.view.read (Elt Ideal) X2 = P) (hX : arg5.view.read (Elt Ideal) X = Y) (k : Fin k0_t2_loop.trips) :
    Chunk (colwise (farL (at2 P) 9 512) Y) (512 * k.val)
      (tripL_k0_t2 (F := Ideal) Variants.none c none i arg1 harg1 arg2 harg2 arg3 harg3 arg4 harg4 arg5 harg5 arg6 harg6 X2 X k) := by
  unfold tripL_k0_t2 trip_k0_t2
  dsimp only
  sl_unfold_words
  refine chunk_single _ _ _ (row0 k) rfl _ _ fun x y hy0 hy1 => ?_
  have hx : (x 0).val < 512 := (x 0).isLt
  simp only [View.readAt_eq_ld, h2, hX]
  have e := far_chunk 9 512 k.val (by decide) P Y _ _ _ _ _ (k0_off15_inb k) (k0_off19_inb k) (k0_off16_inb k) (k0_off17_inb k) (k0_off18_inb k)
    ⟨row0 k, rfl⟩ ⟨row0 k, rfl⟩ ⟨row0 k, rfl⟩ ⟨row0 k, rfl⟩
    ⟨(by decide +kernel : ∀ k : Fin k0_t2_loop.trips, k0_off19 k 0 = partner 512 (512 * k.val)) k, rfl⟩ x
  refine Eq.trans e ?_
  unfold colwise; rw [hy0, hy1]

/-- Trip `k` of loop 3: a chunk of layer 10. -/
theorem trip3 (P : S4096x40.Idx → EReal) (Y : S4096x256.Idx → EReal)
    (X2 : BufTy.Contents (Elt Ideal) arg2.view.ty) (X : BufTy.Contents (Elt Ideal) arg6.view.ty)
    (h2 : arg2.view.read (Elt Ideal) X2 = P) (hX : arg6.view.read (Elt Ideal) X = Y) (k : Fin k0_t3_loop.trips) :
    Chunk (colwise (farL (at2 P) 10 1024) Y) (512 * k.val)
      (tripL_k0_t3 (F := Ideal) Variants.none c none i arg1 harg1 arg2 harg2 arg3 harg3 arg4 harg4 arg5 harg5 arg6 harg6 X2 X k) := by
  unfold tripL_k0_t3 trip_k0_t3
  dsimp only
  sl_unfold_words
  refine chunk_single _ _ _ (row0 k) rfl _ _ fun x y hy0 hy1 => ?_
  have hx : (x 0).val < 512 := (x 0).isLt
  simp only [View.readAt_eq_ld, h2, hX]
  rw [pay3_eq]
  have e := far_chunk 10 1024 k.val (by decide) P Y _ _ _ _ _ (k0_off20_inb k) (k0_off24_inb k) (k0_off21_inb k) (k0_off22_inb k) (k0_off23_inb k)
    ⟨row0 k, rfl⟩ ⟨row0 k, rfl⟩ ⟨row0 k, rfl⟩ ⟨row0 k, rfl⟩
    ⟨(by decide +kernel : ∀ k : Fin k0_t3_loop.trips, k0_off24 k 0 = partner 1024 (512 * k.val)) k, rfl⟩ x
  refine Eq.trans e ?_
  unfold colwise; rw [hy0, hy1]

/-- Trip `k` of loop 4: a chunk of layer 11. -/
theorem trip4 (P : S4096x40.Idx → EReal) (Y : S4096x256.Idx → EReal)
    (G : S8192x256.Idx → EReal) (hG : ∀ y : S8192x256.Idx, (y 0).val < 4096 → G y = farL (at2 P) 11 2048 (fun r => at2 Y r (y 1).val) (y 0).val)
    (X2 : BufTy.Contents (Elt Ideal) arg2.view.ty) (X : BufTy.Contents (Elt Ideal) arg5.view.ty)
    (h2 : arg2.view.read (Elt Ideal) X2 = P) (hX : arg5.view.read (Elt Ideal) X = Y) (k : Fin k0_t4_loop.trips) :
    Chunk (G) (512 * k.val)
      (tripL_k0_t4 (F := Ideal) Variants.none c none i arg1 harg1 arg2 harg2 arg3 harg3 arg4 harg4 arg5 harg5 arg6 harg6 X2 X k) := by
  have hk8 : k.val < 8 := lt_of_lt_of_eq k.isLt (by decide)
  unfold tripL_k0_t4 trip_k0_t4
  dsimp only
  sl_unfold_words
  refine chunk_single _ _ _ (row0 k) rfl _ _ fun x y hy0 hy1 => ?_
  have hx : (x 0).val < 512 := (x 0).isLt
  simp only [View.readAt_eq_ld, h2, hX]
  rw [pay4_eq]
  have e := far_chunk 11 2048 k.val (by decide) P Y _ _ _ _ _ (k0_off25_inb k) (k0_off29_inb k) (k0_off26_inb k) (k0_off27_inb k) (k0_off28_inb k)
    ⟨row0 k, rfl⟩ ⟨row0 k, rfl⟩ ⟨row0 k, rfl⟩ ⟨row0 k, rfl⟩
    ⟨(by decide +kernel : ∀ k : Fin k0_t4_loop.trips, k0_off29 k 0 = partner 2048 (512 * k.val)) k, rfl⟩ x
  refine Eq.trans e ?_
  rw [hG y (by omega), hy0, hy1]

/-- Trip `k` of loop 5: rows copied from the input block. -/
theorem trip5 (X0 : S8192x256.Idx → EReal) (G : S8192x256.Idx → EReal) (hG : ∀ y : S8192x256.Idx, 4096 ≤ (y 0).val → G y = X0 y)
    (X : BufTy.Contents (Elt Ideal) arg1.view.ty) (hX : arg1.view.read (Elt Ideal) X = X0) (k : Fin k0_t5_loop.trips) :
    Chunk G (4096 + 512 * k.val)
      (tripL_k0_t5 (F := Ideal) Variants.none c none i arg1 harg1 arg2 harg2 arg3 harg3 arg4 harg4 arg5 harg5 arg6 harg6 X k) := by
  unfold tripL_k0_t5 trip_k0_t5
  dsimp only
  sl_unfold_words
  have r0 := (by decide +kernel : ∀ k : Fin k0_t5_loop.trips, k0_off31 k 0 = 4096 + 512 * k.val) k
  refine chunk_single _ _ _ r0 rfl _ _ fun x y hy0 hy1 => ?_
  simp only [View.readAt_eq_ld, hX]
  rw [hG y (by omega)]
  exact (ld_at2 X0 _ (k0_off31_inb k) x (by rw [r0]; exact hy0.symm) ((Nat.zero_add _).trans hy1.symm)).trans (eq_at2 X0 y).symm

/-- Trip `k` of loop 1: a chunk of the input stage, the activation and layers 6 to 8. -/
theorem trip1 (X0 : S8192x256.Idx → EReal) (P : S4096x40.Idx → EReal) (W : S4096x256.Idx → EReal)
    (X1 : BufTy.Contents (Elt Ideal) arg1.view.ty) (X2 : BufTy.Contents (Elt Ideal) arg2.view.ty) (X3 : BufTy.Contents (Elt Ideal) arg3.view.ty)
    (h1 : arg1.view.read (Elt Ideal) X1 = X0) (h2 : arg2.view.read (Elt Ideal) X2 = P) (h3 : arg3.view.read (Elt Ideal) X3 = W)
    (k : Fin k0_t1_loop.trips) :
    Chunk (colwise (first (at2 P) (at2 W)) X0) (512 * k.val)
      (tripL_k0_t1 (F := Ideal) Variants.none c none i arg1 harg1 arg2 harg2 arg3 harg3 arg4 harg4 arg5 harg5 arg6 harg6 X1 X2 X3 k) := by
  unfold tripL_k0_t1 trip_k0_t1
  dsimp only
  sl_unfold_words
  refine chunk_single _ _ _ (row0 k) rfl _ _ fun x y hy0 hy1 => ?_
  simp only [View.readAt_eq_ld, h1, h2, h3, casts_eq]
  unfold colwise first
  rw [hy0, hy1]
  have hp : ∀ (l : ℕ) (o : Fin 2 → ℕ) (inb : ∀ a, o a + (![512, 1] : Fin 2 → ℕ) a ≤ S4096x40.size a), o 0 = 512 * k.val → o 1 = l →
      ∀ q : S512x1.Idx, View.ld (Val := Elt Ideal) (e' := .f32) P (Rect.unit (s := S4096x40) o ![512, 1] inb) q
        = at2 P (512 * k.val + (q 0).val) l := fun l o inb e0 e1 q => by
    have hq : (q 1).val < 1 := (q 1).isLt
    exact ld_at2 P o inb q (by rw [e0]) (by rw [e1]; omega)
  have hw : ∀ (b : ℕ) (o : Fin 2 → ℕ) (inb : ∀ a, o a + (![256, 256] : Fin 2 → ℕ) a ≤ S4096x256.size a), o 0 = b → o 1 = 0 →
      ∀ q : S256x256.Idx, View.ld (Val := Elt Ideal) (e' := .f32) W (Rect.unit (s := S4096x256) o ![256, 256] inb) q
        = at2 W (b + (q 0).val) (q 1).val := fun b o inb e0 e1 q =>
    ld_at2 W o inb q (by rw [e0]) (by rw [e1, Nat.zero_add])
  refine pay1_apply k.val (x 1).val (at2 P) _ _ _ _ _ _ _ (pay12_eq _ _ _ _ _ _ _).1 (pay12_eq _ _ _ _ _ _ _).2 ?_
    (hp 8 _ _ (row0 k) rfl) (hp 20 _ _ (row0 k) rfl) (hp 32 _ _ (row0 k) rfl) x rfl
  refine pay8_apply k.val (x 1).val (at2 P) _ _ _ _ _ _ _ _ ?_
    (hp 6 _ _ (row0 k) rfl) (hp 18 _ _ (row0 k) rfl) (hp 30 _ _ (row0 k) rfl)
    (hp 7 _ _ (row0 k) rfl) (hp 19 _ _ (row0 k) rfl) (hp 31 _ _ (row0 k) rfl)
  exact pay5_apply k.val (x 1).val (at2 P) (at2 W) _ _ _ _ _ _
    (fun q hq => ld_at2 X0 _ (k0_off1_inb k) q (by rw [← row0 k]; rfl) ((Nat.zero_add _).trans hq))
    (hw _ _ _ ((by decide +kernel : ∀ k : Fin k0_t1_loop.trips, k0_off2 k 0#32 0 = 512 * k.val) k) rfl)
    (hw _ _ _ ((by decide +kernel : ∀ k : Fin k0_t1_loop.trips, k0_off2 k 256#32 0 = 512 * k.val + 256) k) rfl)
    (hp 36 _ _ (row0 k) rfl) (hp 37 _ _ (row0 k) rfl)

/-- What loop 1 leaves in its buffer. -/
theorem after1 (X0 : S8192x256.Idx → EReal) (P : S4096x40.Idx → EReal) (W : S4096x256.Idx → EReal) (X1 : BufTy.Contents (Elt Ideal) arg1.view.ty) (X2 : BufTy.Contents (Elt Ideal) arg2.view.ty) (X3 : BufTy.Contents (Elt Ideal) arg3.view.ty)
    (h1 : arg1.view.read (Elt Ideal) X1 = X0) (h2 : arg2.view.read (Elt Ideal) X2 = P) (h3 : arg3.view.read (Elt Ideal) X3 = W)
    (f : BufTy.Contents (Elt Ideal) arg5.view.ty) :
    arg5.view.read (Elt Ideal) (arg5.view.writes (Elt Ideal) f
      (pb_k0_t1 (F := Ideal) Variants.none c none i arg1 harg1 arg2 harg2 arg3 harg3 arg4 harg4 arg5 harg5 arg6 harg6 X1 X2 X3 (Scf.trips k0_t1_loop.lb k0_t1_loop.ub k0_t1_loop.st))) = colwise (first (at2 P) (at2 W)) X0 := by
  have h := steps_pieces (colwise (first (at2 P) (at2 W)) X0)
    (pb_k0_t1 (F := Ideal) Variants.none c none i arg1 harg1 arg2 harg2 arg3 harg3 arg4 harg4 arg5 harg5 arg6 harg6 X1 X2 X3) _ (fun k => 512 * k) rfl
    (pb_k0_t1_succ (F := Ideal) Variants.none c none i arg1 harg1 arg2 harg2 arg3 harg3 arg4 harg4 arg5 harg5 arg6 harg6 X1 X2 X3)
    (fun k => trip1 c i arg1 harg1 arg2 harg2 arg3 harg3 arg4 harg4 arg5 harg5 arg6 harg6 X0 P W X1 X2 X3 h1 h2 h3 k) 8 (by decide)
  rw [← List.append_nil (pb_k0_t1 (F := Ideal) _ _ _ _ _ _ _ _ _ _ _ _ _ _ _ _ _ _ _ _)]
  refine read_pieces _ f _ _ _ h.1 fun y => ?_
  obtain ⟨q, hq, hq'⟩ := chunk_of (y 0).val 0 (Nat.zero_le _) (by have := (y 0).isLt; exact lt_of_lt_of_eq this (by decide))
  exact h.2 _ q y (by simpa using hq) (by simpa using hq')

/-- What loop 2 leaves in its buffer. -/
theorem after2 (P : S4096x40.Idx → EReal) (Y : S4096x256.Idx → EReal) (X2 : BufTy.Contents (Elt Ideal) arg2.view.ty) (X : BufTy.Contents (Elt Ideal) arg5.view.ty)
    (h2 : arg2.view.read (Elt Ideal) X2 = P) (hX : arg5.view.read (Elt Ideal) X = Y) (f : BufTy.Contents (Elt Ideal) arg6.view.ty) :
    arg6.view.read (Elt Ideal) (arg6.view.writes (Elt Ideal) f
      (pb_k0_t2 (F := Ideal) Variants.none c none i arg1 harg1 arg2 harg2 arg3 harg3 arg4 harg4 arg5 harg5 arg6 harg6 X2 X (Scf.trips k0_t2_loop.lb k0_t2_loop.ub k0_t2_loop.st))) = colwise (farL (at2 P) 9 512) Y := by
  have h := steps_pieces (colwise (farL (at2 P) 9 512) Y)
    (pb_k0_t2 (F := Ideal) Variants.none c none i arg1 harg1 arg2 harg2 arg3 harg3 arg4 harg4 arg5 harg5 arg6 harg6 X2 X) _ (fun k => 512 * k) rfl
    (pb_k0_t2_succ (F := Ideal) Variants.none c none i arg1 harg1 arg2 harg2 arg3 harg3 arg4 harg4 arg5 harg5 arg6 harg6 X2 X)
    (fun k => trip2 c i arg1 harg1 arg2 harg2 arg3 harg3 arg4 harg4 arg5 harg5 arg6 harg6 P Y X2 X h2 hX k) 8 (by decide)
  rw [← List.append_nil (pb_k0_t2 (F := Ideal) _ _ _ _ _ _ _ _ _ _ _ _ _ _ _ _ _ _ _)]
  refine read_pieces _ f _ _ _ h.1 fun y => ?_
  obtain ⟨q, hq, hq'⟩ := chunk_of (y 0).val 0 (Nat.zero_le _) (by have := (y 0).isLt; exact lt_of_lt_of_eq this (by decide))
  exact h.2 _ q y (by simpa using hq) (by simpa using hq')

/-- What loop 3 leaves in its buffer. -/
theorem after3 (P : S4096x40.Idx → EReal) (Y : S4096x256.Idx → EReal) (X2 : BufTy.Contents (Elt Ideal) arg2.view.ty) (X : BufTy.Contents (Elt Ideal) arg6.view.ty)
    (h2 : arg2.view.read (Elt Ideal) X2 = P) (hX : arg6.view.read (Elt Ideal) X = Y) (f : BufTy.Contents (Elt Ideal) arg5.view.ty) (L) :
    arg5.view.read (Elt Ideal) (arg5.view.writes (Elt Ideal) f
      (pb_k0_t3 (F := Ideal) Variants.none c none i arg1 harg1 arg2 harg2 arg3 harg3 arg4 harg4 arg5 harg5 arg6 harg6 X2 X (Scf.trips k0_t3_loop.lb k0_t3_loop.ub k0_t3_loop.st) ++ L)) = colwise (farL (at2 P) 10 1024) Y := by
  have h := steps_pieces (colwise (farL (at2 P) 10 1024) Y)
    (pb_k0_t3 (F := Ideal) Variants.none c none i arg1 harg1 arg2 harg2 arg3 harg3 arg4 harg4 arg5 harg5 arg6 harg6 X2 X) _ (fun k => 512 * k) rfl
    (pb_k0_t3_succ (F := Ideal) Variants.none c none i arg1 harg1 arg2 harg2 arg3 harg3 arg4 harg4 arg5 harg5 arg6 harg6 X2 X)
    (fun k => trip3 c i arg1 harg1 arg2 harg2 arg3 harg3 arg4 harg4 arg5 harg5 arg6 harg6 P Y X2 X h2 hX k) 8 (by decide)
  skip
  refine read_pieces _ f _ _ _ h.1 fun y => ?_
  obtain ⟨q, hq, hq'⟩ := chunk_of (y 0).val 0 (Nat.zero_le _) (by have := (y 0).isLt; exact lt_of_lt_of_eq this (by decide))
  exact h.2 _ q y (by simpa using hq) (by simpa using hq')

/-- What loops 4 and 5 leave in the output block. -/
theorem after45 (X0 : S8192x256.Idx → EReal) (P : S4096x40.Idx → EReal) (Y : S4096x256.Idx → EReal) (G : S8192x256.Idx → EReal)
    (hlo : ∀ y : S8192x256.Idx, (y 0).val < 4096 → G y = farL (at2 P) 11 2048 (fun r => at2 Y r (y 1).val) (y 0).val)
    (hhi : ∀ y : S8192x256.Idx, 4096 ≤ (y 0).val → G y = X0 y)
    (X1 : BufTy.Contents (Elt Ideal) arg1.view.ty) (X2 : BufTy.Contents (Elt Ideal) arg2.view.ty) (X : BufTy.Contents (Elt Ideal) arg5.view.ty)
    (h1 : arg1.view.read (Elt Ideal) X1 = X0) (h2 : arg2.view.read (Elt Ideal) X2 = P) (hX : arg5.view.read (Elt Ideal) X = Y)
    (f : BufTy.Contents (Elt Ideal) arg4.view.ty) :
    arg4.view.read (Elt Ideal) (arg4.view.writes (Elt Ideal) f
      (pb_k0_t5 (F := Ideal) Variants.none c none i arg1 harg1 arg2 harg2 arg3 harg3 arg4 harg4 arg5 harg5 arg6 harg6 X1 (Scf.trips k0_t5_loop.lb k0_t5_loop.ub k0_t5_loop.st)
        ++ pb_k0_t4 (F := Ideal) Variants.none c none i arg1 harg1 arg2 harg2 arg3 harg3 arg4 harg4 arg5 harg5 arg6 harg6 X2 X (Scf.trips k0_t4_loop.lb k0_t4_loop.ub k0_t4_loop.st))) = G := by
  have h4 := steps_pieces G
    (pb_k0_t4 (F := Ideal) Variants.none c none i arg1 harg1 arg2 harg2 arg3 harg3 arg4 harg4 arg5 harg5 arg6 harg6 X2 X) _ (fun k => 512 * k) rfl
    (pb_k0_t4_succ (F := Ideal) Variants.none c none i arg1 harg1 arg2 harg2 arg3 harg3 arg4 harg4 arg5 harg5 arg6 harg6 X2 X)
    (fun k => trip4 c i arg1 harg1 arg2 harg2 arg3 harg3 arg4 harg4 arg5 harg5 arg6 harg6 P Y G hlo X2 X h2 hX k) 8 (by decide)
  have h5 := steps_pieces G
    (pb_k0_t5 (F := Ideal) Variants.none c none i arg1 harg1 arg2 harg2 arg3 harg3 arg4 harg4 arg5 harg5 arg6 harg6 X1) _ (fun k => 4096 + 512 * k) rfl
    (pb_k0_t5_succ (F := Ideal) Variants.none c none i arg1 harg1 arg2 harg2 arg3 harg3 arg4 harg4 arg5 harg5 arg6 harg6 X1)
    (fun k => trip5 c i arg1 harg1 arg2 harg2 arg3 harg3 arg4 harg4 arg5 harg5 arg6 harg6 X0 G hhi X1 h1 k) 8 (by decide)
  rw [← List.append_nil (pb_k0_t5 (F := Ideal) _ _ _ _ _ _ _ _ _ _ _ _ _ _ _ _ _ _ ++ _)]
  refine read_pieces _ f _ _ _ (piecesOf_append h5.1 h4.1) fun y => ?_
  have hy : (y 0).val < 8192 := (y 0).isLt
  by_cases hl : (y 0).val < 4096
  · obtain ⟨q, hq, hq'⟩ := chunk_of (y 0).val 0 (Nat.zero_le _) (by omega)
    obtain ⟨p, hp, hm⟩ := h4.2 _ q y (by simpa using hq) (by simpa using hq')
    exact ⟨p, List.mem_append_right _ hp, hm⟩
  · obtain ⟨q, hq, hq'⟩ := chunk_of (y 0).val 4096 (by omega) (by omega)
    obtain ⟨p, hp, hm⟩ := h5.2 _ q y hq hq'
    exact ⟨p, List.mem_append_left _ hp, hm⟩

end
end Cert.KernelIdeal.Body
end
-- ==== Proof.KernelRun.lean ====
/-
  The run of `KernelIdeal` over the extended reals: it runs to completion, leaves its arguments as they were, and its
  result array is named, index by index.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.StableHlo.RunRead
public import Idealize.ShloMosaic.Lib.Tactic
public import Idealize.ShloMosaic.Lib.Claim
public import Idealize.ShloMosaic.Lib.Pipeline.ValueKit
public import proofs.«01_k».proof.Proof.Body

@[expose] public section

set_option maxRecDepth 16384

noncomputable section

namespace Cert.KernelIdeal.Run

open Cert.KernelIdeal Cert.KernelIdeal.Gen Butterfly
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Up to the kernel -/

/-- Core `c`'s buffers when the kernel is entered: the launch contents after the host operations. -/
abbrev V (c : Dev nD) (b : Ref sig .tc) : Buf (Elt Ideal) ((c : Thread nD τ).loc b) :=
  StableHlo.after hostOps0 (fun b => m (c, b)) b

/-- No host operation writes a buffer fresh. -/
theorem host_fresh : (hostOps0 : List (HloOp τ sig (Elt Ideal))).Forall fun op => op.fresh = ∅ := by
  simp only [List.Forall]; repeat' constructor

set_option maxHeartbeats 800000 in
/-- The program up to the kernel is the host operations. -/
theorem host_main (𝒱₀ : Variants) : Pipeline.HMain (Ix := Unit) (Name := ℕ) (U := UR sig nD τ) (Lvl := ℕ) cfgs 0 defs₀ 𝒱₀ m (main (F := Ideal)) (V m) :=
  Pipeline.hmain_prefix cfgs 0 defs₀ 𝒱₀ m main hostOps0 hostOps0_sub host_fresh main_chain

/-- The host operations leave each argument as launched. -/
theorem V_arg0 (c : Dev nD) : V m c main_arg0 = m ((c : Thread nD τ).loc main_arg0) := by after_reads_simp
theorem V_arg1 (c : Dev nD) : V m c main_arg1 = m ((c : Thread nD τ).loc main_arg1) := by after_reads_simp
theorem V_arg2 (c : Dev nD) : V m c main_arg2 = m ((c : Thread nD τ).loc main_arg2) := by after_reads_simp
theorem V_arg3 (c : Dev nD) : V m c main_arg3 = m ((c : Thread nD τ).loc main_arg3) := by after_reads_simp
theorem V_arg4 (c : Dev nD) : V m c main_arg4 = m ((c : Thread nD τ).loc main_arg4) := by after_reads_simp

/-- Window `w`'s block at point `t`, read off its array as the kernel finds it. -/
def blkIn (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The staging buffers at point `t`, and the two scratch buffers. -/
abbrev st0 (t : Fin cfg0.N) : Memref sig .tc .vmem S8192x256 .f32 := win0_0.stage (cfg0.slots t 0)
abbrev st1 (t : Fin cfg0.N) : Memref sig .tc .vmem S4096x40 .f32 := win0_1.stage (cfg0.slots t 1)
abbrev st2 (t : Fin cfg0.N) : Memref sig .tc .vmem S4096x256 .f32 := win0_2.stage (cfg0.slots t 2)
abbrev st3 (t : Fin cfg0.N) : Memref sig .tc .vmem S8192x256 .f32 := win0_3.stage (cfg0.slots t 3)
abbrev scr0 : Memref sig .tc .vmem S4096x256 .f32 := Memref.whole cc0_scratch0
abbrev scr1 : Memref sig .tc .vmem S4096x256 .f32 := Memref.whole cc0_scratch1

/-- The pipeline's invariant spelled with the scratch buffers owned at some contents. -/
theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The body -/

-- (the run's proof term is large: checking it walks past the default budget)
set_option maxHeartbeats 1000000 in
/-- The body's triple: the inputs' buffers come back at their contents, the output at `Body.out` of them, the scratch at some contents. -/
theorem body_run (c : Dev nD) (i : grid0.Coords) (arg1 : Memref sig .tc .vmem S8192x256 .f32) (harg1 : arg1.IsWhole) (arg2 : Memref sig .tc .vmem S4096x40 .f32) (harg2 : arg2.IsWhole) (arg3 : Memref sig .tc .vmem S4096x256 .f32) (harg3 : arg3.IsWhole) (arg4 : Memref sig .tc .vmem S8192x256 .f32) (harg4 : arg4.IsWhole) (arg5 : Memref sig .tc .vmem S4096x256 .f32) (harg5 : arg5.IsWhole) (arg6 : Memref sig .tc .vmem S4096x256 .f32) (harg6 : arg6.IsWhole)
    (x0 : Vec Ideal S8192x256 .f32) (x1 : Vec Ideal S4096x40 .f32) (x2 : Vec Ideal S4096x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (Body.out x0 x1 x2) ∗ (∃ d, owns (c : Thread nD τ) arg5 fullShare d) ∗ (∃ d, owns (c : Thread nD τ) arg6 fullShare d)) -∗ K ⟨⟩))
      ⊢ wp frame (wpE (defs₀ (F := Ideal)) Variants.none c none) E (cc0__butterfly_body i arg1 harg1 arg2 harg2 arg3 harg3 arg4 harg4 arg5 harg5 arg6 harg6) K := by
  simp only [cc0__butterfly_body_eq_skeleton]; unfold cc0__butterfly_body_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    exact Body.after45 c i arg1 harg1 arg2 harg2 arg3 harg3 arg4 harg4 arg5 harg5 arg6 harg6 x0 x1 _ (Body.out x0 x1 x2)
      (Body.out_upper x0 x1 x2) (fun y hy => if_neg (Nat.not_lt.mpr hy)) _ _ _ hf0 hf1
      (Body.after3 c i arg1 harg1 arg2 harg2 arg3 harg3 arg4 harg4 arg5 harg5 arg6 harg6 x1 _ _ _ hf1
        (Body.after2 c i arg1 harg1 arg2 harg2 arg3 harg3 arg4 harg4 arg5 harg5 arg6 harg6 x1 _ _ _ hf1
          (Body.after1 c i arg1 harg1 arg2 harg2 arg3 harg3 arg4 harg4 arg5 harg5 arg6 harg6 x0 x1 x2 _ _ _ hf0 hf1 hf2 _) _) _ _) _
  isplitl [HS0]
  · iexists _, _; isplitr; swap; · iexact HS0
    ipureintro; rfl
  iexists _, _; isplitr; swap; · iexact HS1
  ipureintro; rfl

/-- The proof data: the arrays as the kernel finds them, each input's buffer at its block after the body,
    the output's at what the body makes of the three blocks. -/
def dats (_ : Fin 1) (c : Dev nD) : Dat τ (Elt Ideal) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => Body.out (blkIn m c 0 t) (blkIn m c 1 t) (blkIn m c 2 t)
  Φ _ := Pipeline.ΦA spec0 c
  q _ := fullShare
  owed _ := 0

/-- The proof data's arrays are the contents at entry. -/
theorem A_eq (c : Dev nD) (w : Fin cfg0.W) : (dats m 0 c).A w = V m c (Pipeline.arrRef spec0 w) := by
  dsimp only [dats]

/-- What the body leaves in each input's buffer is the input's block. -/
theorem after_0 (c : Dev nD) (t : Fin cfg0.N) : (dats m 0 c).after 0 t = blkIn m c 0 t := by dsimp only [dats]
theorem after_1 (c : Dev nD) (t : Fin cfg0.N) : (dats m 0 c).after 1 t = blkIn m c 1 t := by dsimp only [dats]
theorem after_2 (c : Dev nD) (t : Fin cfg0.N) : (dats m 0 c).after 2 t = blkIn m c 2 t := by dsimp only [dats]

/-- What it leaves in the output's. -/
theorem after_3 (c : Dev nD) (t : Fin cfg0.N) : (dats m 0 c).after 3 t = Body.out (blkIn m c 0 t) (blkIn m c 1 t) (blkIn m c 2 t) := by dsimp only [dats]

/-- Each input's buffer holds its block when the body starts, fetched at this point or not. -/
theorem before_0 (c : Dev nD) (t : Fin cfg0.N) (d) : (dats m 0 c).before 0 t d = blkIn m c 0 t :=
  ((dats m 0 c).before_in_eq_fetched 0 rfl (fun _ => rfl) (fun _ _ _ => rfl)
    (fun t => by rw [after_0]; unfold Dat.blockOf blkIn; rw [A_eq]) t d).trans
    (by unfold Dat.fetched Dat.blockOf blkIn; rw [A_eq]; try rfl)
theorem before_1 (c : Dev nD) (t : Fin cfg0.N) (d) : (dats m 0 c).before 1 t d = blkIn m c 1 t :=
  ((dats m 0 c).before_in_eq_fetched 1 rfl (fun _ => rfl) (fun _ _ _ => rfl)
    (fun t => by rw [after_1]; unfold Dat.blockOf blkIn; rw [A_eq]) t d).trans
    (by unfold Dat.fetched Dat.blockOf blkIn; rw [A_eq]; try rfl)
theorem before_2 (c : Dev nD) (t : Fin cfg0.N) (d) : (dats m 0 c).before 2 t d = blkIn m c 2 t :=
  ((dats m 0 c).before_in_eq_fetched 2 rfl (fun _ => rfl) (fun _ _ _ => rfl)
    (fun t => by rw [after_2]; unfold Dat.blockOf blkIn; rw [A_eq]) t d).trans
    (by unfold Dat.fetched Dat.blockOf blkIn; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

/-- The body at any point: the inputs' buffers hold their blocks, the invariant lends the scratch and takes it back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩⟩
  iapply ((body_run c (grid0.coords t) _ _ _ _ _ _ _ _ _ _ _ _ (blkIn m c 0 t) (blkIn m c 1 t) (blkIn m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t` is the body. -/
theorem row_eq (t : Fin cfg0.N) :
    defs₀ (F := Ideal) .tc cfg0.body (cfg0.bodyArgs t (cfg0.slots t)) = bodyAt0 t := by
  unfold defs₀; rw [Defs.onTc_tc]

/-- The library's body obligation, at every point. -/
theorem obligation (c : Dev nD) : BodyObligation (dats m 0 c) (defs₀ (F := Ideal)) Variants.none () Set.univ := fun t => by
  rw [bigSep_W0, bigSep_W0, row_eq]
  exact triple_restated (sound_body m c t) rfl .rfl fun _ => .rfl

-- `θ_run_frame`'s implicit arguments are found by unifying its conclusion with this one, which takes unfolding plain
-- definitions in a metavariable's type
set_option backward.isDefEq.respectTransparency.types false in
/-- The run: every fair execution ends, every array at what the proof data say, every counter at zero. -/
theorem run_all : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_main m Variants.none) (hA := A_eq m) (hΦ := fun _ _ => rfl)

/-! ## The result array -/

/-- The parameter table and the input-stage weights, as the kernel finds them. -/
def params (c : Dev nD) : S4096x40.Idx → EReal := V m c (Pipeline.arrRef spec0 1)
def weights (c : Dev nD) : S4096x256.Idx → EReal := V m c (Pipeline.arrRef spec0 2)

/-- The block indices of the four windows. -/
theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, t.val] := (by decide +kernel : ∀ t : Fin grid0.N, win0_3.index t = ![0, t.val])

/-- The block of data at point `t`: the columns from `256 * t` on. -/
theorem blk0_at (c : Dev nD) (t : Fin cfg0.N) (y : S8192x256.Idx) :
    blkIn m c 0 t y = at2 (n := 8192) (m := 2048) (m ((c : Thread nD τ).loc main_arg0)) (y 0).val (256 * t.val + (y 1).val) := by
  rw [← V_arg0 m c]
  unfold blkIn
  refine eq_at2_of (n := 8192) (m := 2048) (V m c main_arg0) _ ?_ ?_
  · blk_simp [idx0 t]
  · blk_simp [idx0 t]
    omega

/-- The other two inputs are staged whole. -/
theorem blk1_eq (c : Dev nD) (t : Fin cfg0.N) : blkIn m c 1 t = params m c := by
  funext y
  unfold blkIn params
  refine congrArg (V m c main_call0_v211) (funext fun a => Fin.ext ?_)
  fin_cases a <;> blk_simp [idx1 t]
theorem blk2_eq (c : Dev nD) (t : Fin cfg0.N) : blkIn m c 2 t = weights m c := by
  funext y
  unfold blkIn weights
  refine congrArg (V m c main_call0_v382) (funext fun a => Fin.ext ?_)
  fin_cases a <;> blk_simp [idx2 t]

/-- The result: rows 4096 on are the data; the rows before are computed a column at a time. -/
def result (c : Dev nD) : S8192x2048.Idx → EReal := fun i =>
  if (i 0).val < 4096 then
    Butterfly.column (Butterfly.at2 (params m c)) (Butterfly.at2 (weights m c))
      (fun r => Butterfly.at2 (n := 8192) (m := 2048) (m ((c : Thread nD τ).loc main_arg0)) r (i 1).val) (i 0).val
  else m ((c : Thread nD τ).loc main_arg0) i

/-- The output array after the run. -/
theorem arr3 (c : Dev nD) : (dats m 0 c).arrAt 3 cfg0.N = result m c := by
  refine (dats m 0 c).arrAt_eq_of_covers 3 _ (by decide +kernel) fun t hf y => ?_
  rw [after_3, blk1_eq, blk2_eq]
  have e0 : (((win0_3.blk t).view.emb y) 0 : ℕ) = (y 0).val := by blk_simp [idx3 t]
  have e1 : (((win0_3.blk t).view.emb y) 1 : ℕ) = 256 * t.val + (y 1).val := by blk_simp [idx3 t]; omega
  have hy : (y 1).val < 256 := (y 1).isLt
  show Body.out (blkIn m c 0 t) (params m c) (weights m c) y = result m c ((win0_3.blk t).view.emb y)
  have hx : (fun r => at2 (n := 8192) (m := 256) (blkIn m c 0 t) r (y 1).val)
      = fun r => at2 (n := 8192) (m := 2048) (m ((c : Thread nD τ).loc main_arg0)) r (256 * t.val + (y 1).val) := by
    funext r
    by_cases hr : r < 8192
    · exact (at2_in _ hr hy).trans (blk0_at m c t (ix2 ⟨r, hr⟩ ⟨(y 1).val, hy⟩))
    · exact (at2_below _ _ hr).trans (at2_below _ _ hr).symm
  unfold Body.out result
  rw [e0, e1, hx]
  refine if_congr Iff.rfl rfl ?_
  exact (blk0_at m c t y).trans (eq_at2_of (n := 8192) (m := 2048) _ _ e0 e1).symm

/-- What the run leaves: the result array named, the arguments as launched, every counter at zero. -/
theorem run : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 3).trans (arr3 m c),
      ((h.1 c).1 0).trans (((dats m 0 c).arrAt_in 0 rfl _).trans ((A_eq m c 0).trans (V_arg0 m c))),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c)⟩, h.2⟩) (run_all m ρ)

end Cert.KernelIdeal.Run

end
-- ==== Proof.Angles.lean ====
module

public import proofs.«01_k».proof.Proof.Layers

@[expose] public section

/-!
The rotation angles of the butterfly layers, and one layer as the tables of the two programs spell it.

Layer `l` pairs row `r` with the row whose bit `l` differs; both rows of a pair use the same angle,
number `(r / 2^(l+1)) * 2^l + r % 2^l` of row `l` of the angle table.
-/

noncomputable section

namespace Butterfly

open Idealize.ShloMosaic

variable (A : (⟨2, ![12, 2048]⟩ : Shape).Idx → EReal)

/-- The position in its table row of the angle that row `r` uses in layer `l`. -/
def place (l r : ℕ) : ℕ := r / (2 * 2 ^ l) * 2 ^ l + r % 2 ^ l

/-- The angle that row `r` uses in layer `l`. -/
def angle (l r : ℕ) : EReal := at2 A l (place l r)

/-- The factor of the row itself in layer `l`. -/
def cosOf (l r : ℕ) : EReal := Ideal.cos (angle A l r)

/-- The factor of the row `2^l` further on: the sine where bit `l` of the row is clear, else zero. -/
def plusOf (l r : ℕ) : EReal := if r / 2 ^ l % 2 < 1 then Ideal.sin (angle A l r) else 0

/-- The factor of the row `2^l` before: minus the sine where bit `l` of the row is set, else zero. -/
def minusOf (l r : ℕ) : EReal := if r / 2 ^ l % 2 < 1 then 0 else -Ideal.sin (angle A l r)

/-- Layer `l` on a column of `n` rows, as rows `2^l` apart read round the end. -/
def layer (n l : ℕ) (x : ℕ → EReal) (r : ℕ) : EReal :=
  near n (2 ^ l) (cosOf A l) (plusOf A l) (minusOf A l) x r

/-- The bias of row `r`: the first eight rows of each 16 have one, the others zero. -/
def biasOf (b : (⟨1, ![2048]⟩ : Shape).Idx → EReal) (r : ℕ) : EReal :=
  if r % 16 < 8 then at1 b (r / 16 * 8 + r % 16) else 0

/-- One on the first eight rows of each 16, zero on the others. -/
def maskOf (r : ℕ) : EReal := if r % 16 < 8 then 1 else 0

variable {A}

/-- An entry of the angle table at the place of row `r` is that row's angle. -/
theorem angle_of {l r : ℕ} (i : (⟨2, ![12, 2048]⟩ : Shape).Idx) (h0 : (i 0).val = l) (h1 : (i 1).val = place l r) :
    A i = angle A l r := eq_at2_of A i h0 h1

variable {l r : ℕ} {c : Prop} [Decidable c]

/-- The sine of the row's angle where bit `l` is clear is the factor of the row further on. -/
theorem plus_of (i : c → (⟨2, ![12, 2048]⟩ : Shape).Idx) (hc : c ↔ r / 2 ^ l % 2 < 1)
    (h0 : ∀ h, (i h 0).val = l) (h1 : ∀ h, (i h 1).val = place l r) :
    (if h : c then Ideal.sin (A (i h)) else 0) = plusOf A l r := by
  unfold plusOf
  by_cases h : c
  · rw [dif_pos h, if_pos (hc.1 h), angle_of (A := A) (i h) (h0 h) (h1 h)]
  · rw [dif_neg h, if_neg (hc.not.1 h)]

/-- Minus its sine where bit `l` is set is the factor of the row before. -/
theorem minus_of (i : ¬c → (⟨2, ![12, 2048]⟩ : Shape).Idx) (hc : c ↔ r / 2 ^ l % 2 < 1)
    (h0 : ∀ h, (i h 0).val = l) (h1 : ∀ h, (i h 1).val = place l r) :
    (if h : c then 0 else -Ideal.sin (A (i h))) = minusOf A l r := by
  unfold minusOf
  by_cases h : c
  · rw [dif_pos h, if_pos (hc.1 h)]
  · rw [dif_neg h, if_neg (hc.not.1 h), angle_of (A := A) (i h) (h0 h) (h1 h)]

/-- The table of input-stage weights: the identity of each 256-row block, taken through the first `l` layers. -/
def table (A : (⟨2, ![12, 2048]⟩ : Shape).Idx → EReal) : ℕ → ℕ → ℕ → EReal
  | 0, r, k => if r % 256 = k then 1 else 0
  | l + 1, r, k => layer A 4096 l (fun j => table A l j k) r

theorem up_lt {n s r : ℕ} (h : r < n) : up n s r < n := by
  unfold up
  rw [Nat.div_eq_of_lt h]
  have := Nat.mod_lt (r % n + s) (by omega : 0 < n)
  omega

theorem dn_lt {n s r : ℕ} (h : r < n) : dn n s r < n := by
  unfold dn
  rw [Nat.div_eq_of_lt h]
  have := Nat.mod_lt (r % n + (n - s)) (by omega : 0 < n)
  omega

/-- A layer reads its column at rows below `n` only. -/
theorem layer_congr {n l r : ℕ} {x y : ℕ → EReal} (h : ∀ j < n, x j = y j) (hr : r < n) :
    layer A n l x r = layer A n l y r := by
  unfold layer near
  rw [h r hr, h _ (up_lt hr), h _ (dn_lt hr)]

end Butterfly

end
-- ==== Proof.Scatter.lean ====
module

public import Idealize.ShloMosaic.Lib.Pipeline.ValueKit
public import Idealize.ShloMosaic.Lib.Routing.OpsSet

@[expose] public section

/-!
The three scatters of the two programs, read at an element: a block written from column 0 of a matrix, a block
written from position 0 of the middle axis, and whole rows written to consecutive rows from row 0.
-/

noncomputable section

namespace Butterfly

open Idealize.ShloMosaic Idealize.ShloMosaic.Routing Idealize.ShloMosaic.Tactic

/-- A block of `M` columns written at column 0: the block where it reaches, the operand elsewhere. -/
theorem scatter_cols {α : Type} {A N M w : ℕ} (d : ScatterDims ⟨2, ![A, N]⟩ ⟨1, ![1]⟩ ⟨2, ![A, M]⟩)
    (hu : d.updateWindowDims = [0, 1]) (hi : d.insertedWindowDims = []) (hs : d.scatterDimsToOperandDims = [1])
    (hv : d.indexVectorDim = 0) (x : (⟨2, ![A, N]⟩ : Shape).Idx → α) (idx : IVec ⟨1, ![1]⟩ w)
    (hz : ∀ i, (idx i).toInt = 0) (upd : (⟨2, ![A, M]⟩ : Shape).Idx → α) (q : Fin A) (e : Fin N) :
    Host.scatter d (fun _ b => b) x idx upd (ix2 q e) =
      if h : e.val < M then upd (ix2 q ⟨e.val, h⟩) else x (ix2 q e) := by
  obtain ⟨u, i, s, v, wf⟩ := d
  dsimp only at hu hi hs hv
  subst hu hi hs hv
  have hst : ∀ (k : (⟨2, ![A, M]⟩ : Shape).Idx) (a : Fin 2),
      (ScatterDims.mk (s := ⟨2, ![A, N]⟩) (si := ⟨1, ![1]⟩) (u := ⟨2, ![A, M]⟩) [0, 1] [] [1] 0 wf).start k idx a = 0 := by
    intro k a
    unfold ScatterDims.start
    split
    · exact hz _
    · rfl
  have hw : ∀ (k : (⟨2, ![A, M]⟩ : Shape).Idx) (a : Fin 2),
      (ScatterDims.mk (s := ⟨2, ![A, N]⟩) (si := ⟨1, ![1]⟩) (u := ⟨2, ![A, M]⟩) [0, 1] [] [1] 0 wf).window k a = (k a).val := by
    intro k a
    fin_cases a <;> rfl
  have hl : ∀ k : (⟨2, ![A, M]⟩ : Shape).Idx,
      (ScatterDims.mk (s := ⟨2, ![A, N]⟩) (si := ⟨1, ![1]⟩) (u := ⟨2, ![A, M]⟩) [0, 1] [] [1] 0 wf).resultIdx? k idx =
        some (ix2 q e) ↔ (k 0).val = q.val ∧ (k 1).val = e.val := by
    intro k
    rw [resultIdx?_eq_some]
    simp only [hst, hw, zero_add, Nat.cast_inj]
    exact Fin.forall_fin_two
  by_cases he : e.val < M
  · rw [dif_pos he]
    refine scatter_set_hit _ _ _ _ _ _ (fun k hk => congrArg upd ?_) (ix2 q ⟨e.val, he⟩) ((hl _).2 ⟨rfl, rfl⟩)
    have := (hl k).1 hk
    exact (ix2_eta k).symm.trans (by congr 1 <;> exact Fin.ext (by first | exact this.1 | exact this.2))
  · rw [dif_neg he]
    refine scatter_set_miss _ _ _ _ _ fun k hk => he ?_
    rw [← ((hl k).1 hk).2]
    exact (k 1).isLt

/-- A block of `M` places written at place 0 of the middle axis. -/
theorem scatter_middle {α : Type} {A N M B w : ℕ} (d : ScatterDims ⟨3, ![A, N, B]⟩ ⟨1, ![1]⟩ ⟨3, ![A, M, B]⟩)
    (hu : d.updateWindowDims = [0, 1, 2]) (hi : d.insertedWindowDims = []) (hs : d.scatterDimsToOperandDims = [1])
    (hv : d.indexVectorDim = 0) (x : (⟨3, ![A, N, B]⟩ : Shape).Idx → α) (idx : IVec ⟨1, ![1]⟩ w)
    (hz : ∀ i, (idx i).toInt = 0) (upd : (⟨3, ![A, M, B]⟩ : Shape).Idx → α) (q : Fin A) (e : Fin N) (j : Fin B) :
    Host.scatter d (fun _ b => b) x idx upd (ix3 q e j) =
      if h : e.val < M then upd (ix3 q ⟨e.val, h⟩ j) else x (ix3 q e j) := by
  obtain ⟨u, i, s, v, wf⟩ := d
  dsimp only at hu hi hs hv
  subst hu hi hs hv
  have hst : ∀ (k : (⟨3, ![A, M, B]⟩ : Shape).Idx) (a : Fin 3),
      (ScatterDims.mk (s := ⟨3, ![A, N, B]⟩) (si := ⟨1, ![1]⟩) (u := ⟨3, ![A, M, B]⟩) [0, 1, 2] [] [1] 0 wf).start
        k idx a = 0 := by
    intro k a
    unfold ScatterDims.start
    split
    · exact hz _
    · rfl
  have hw : ∀ (k : (⟨3, ![A, M, B]⟩ : Shape).Idx) (a : Fin 3),
      (ScatterDims.mk (s := ⟨3, ![A, N, B]⟩) (si := ⟨1, ![1]⟩) (u := ⟨3, ![A, M, B]⟩) [0, 1, 2] [] [1] 0 wf).window
        k a = (k a).val := by
    intro k a
    fin_cases a <;> rfl
  have hl : ∀ k : (⟨3, ![A, M, B]⟩ : Shape).Idx,
      (ScatterDims.mk (s := ⟨3, ![A, N, B]⟩) (si := ⟨1, ![1]⟩) (u := ⟨3, ![A, M, B]⟩) [0, 1, 2] [] [1] 0 wf).resultIdx?
        k idx = some (ix3 q e j) ↔ (k 0).val = q.val ∧ (k 1).val = e.val ∧ (k 2).val = j.val := by
    intro k
    rw [resultIdx?_eq_some]
    simp only [hst, hw, zero_add, Nat.cast_inj]
    constructor
    · intro h
      exact ⟨h 0, h 1, h 2⟩
    · intro h a
      match a with
      | ⟨0, _⟩ => exact h.1
      | ⟨1, _⟩ => exact h.2.1
      | ⟨2, _⟩ => exact h.2.2
  by_cases he : e.val < M
  · rw [dif_pos he]
    refine scatter_set_hit _ _ _ _ _ _ (fun k hk => congrArg upd ?_) (ix3 q ⟨e.val, he⟩ j) ((hl _).2 ⟨rfl, rfl, rfl⟩)
    have := (hl k).1 hk
    refine funext fun a => Fin.ext ?_
    match a with
    | ⟨0, _⟩ => exact this.1
    | ⟨1, _⟩ => exact this.2.1
    | ⟨2, _⟩ => exact this.2.2
  · rw [dif_neg he]
    refine scatter_set_miss _ _ _ _ _ fun k hk => he ?_
    rw [← ((hl k).1 hk).2.1]
    exact (k 1).isLt

/-- `M` rows written to rows 0, 1, …: the first `M` rows become the rows written, the others stay. -/
theorem scatter_rows {α : Type} {N M B w : ℕ} (d : ScatterDims ⟨2, ![N, B]⟩ ⟨2, ![M, 1]⟩ ⟨2, ![M, B]⟩)
    (hu : d.updateWindowDims = [1]) (hi : d.insertedWindowDims = [0]) (hs : d.scatterDimsToOperandDims = [0])
    (hv : d.indexVectorDim = 1) (x : (⟨2, ![N, B]⟩ : Shape).Idx → α) (idx : IVec ⟨2, ![M, 1]⟩ w)
    (hz : ∀ r : Fin M, (idx (ix2 r 0)).toInt = r.val) (upd : (⟨2, ![M, B]⟩ : Shape).Idx → α) (q : Fin N) (j : Fin B) :
    Host.scatter d (fun _ b => b) x idx upd (ix2 q j) =
      if h : q.val < M then upd (ix2 ⟨q.val, h⟩ j) else x (ix2 q j) := by
  obtain ⟨u, i, s, v, wf⟩ := d
  dsimp only at hu hi hs hv
  subst hu hi hs hv
  have hs0 : ∀ (k : (⟨2, ![M, B]⟩ : Shape).Idx),
      (ScatterDims.mk (s := ⟨2, ![N, B]⟩) (si := ⟨2, ![M, 1]⟩) (u := ⟨2, ![M, B]⟩) [1] [0] [0] 1 wf).start
        k idx 0 = (k 0).val := by
    intro k
    refine Eq.trans ?_ (hz (k 0))
    unfold ScatterDims.start
    rw [dif_pos (by exact List.mem_singleton.2 rfl)]
    refine congrArg (fun t => (idx t).toInt) (funext fun a => Fin.ext ?_)
    match a with
    | ⟨0, _⟩ => rfl
    | ⟨1, _⟩ => rfl
  have hs1 : ∀ (k : (⟨2, ![M, B]⟩ : Shape).Idx),
      (ScatterDims.mk (s := ⟨2, ![N, B]⟩) (si := ⟨2, ![M, 1]⟩) (u := ⟨2, ![M, B]⟩) [1] [0] [0] 1 wf).start
        k idx 1 = 0 := fun k => rfl
  have hw0 : ∀ (k : (⟨2, ![M, B]⟩ : Shape).Idx),
      (ScatterDims.mk (s := ⟨2, ![N, B]⟩) (si := ⟨2, ![M, 1]⟩) (u := ⟨2, ![M, B]⟩) [1] [0] [0] 1 wf).window
        k 0 = 0 := fun k => rfl
  have hw1 : ∀ (k : (⟨2, ![M, B]⟩ : Shape).Idx),
      (ScatterDims.mk (s := ⟨2, ![N, B]⟩) (si := ⟨2, ![M, 1]⟩) (u := ⟨2, ![M, B]⟩) [1] [0] [0] 1 wf).window
        k 1 = (k 1).val := fun k => rfl
  have hl : ∀ k : (⟨2, ![M, B]⟩ : Shape).Idx,
      (ScatterDims.mk (s := ⟨2, ![N, B]⟩) (si := ⟨2, ![M, 1]⟩) (u := ⟨2, ![M, B]⟩) [1] [0] [0] 1 wf).resultIdx?
        k idx = some (ix2 q j) ↔ (k 0).val = q.val ∧ (k 1).val = j.val := by
    intro k
    rw [resultIdx?_eq_some]
    constructor
    · intro h
      have h0 := h 0
      have h1 := h 1
      rw [hs0, hw0] at h0
      rw [hs1, hw1] at h1
      change _ = (q.val : ℤ) at h0
      change _ = (j.val : ℤ) at h1
      omega
    · intro h a
      match a with
      | ⟨0, _⟩ =>
        refine (congrArg₂ (fun (a : ℤ) (b : ℕ) => a + (b : ℤ)) (hs0 k) (hw0 k)).trans ?_
        change _ = (q.val : ℤ)
        omega
      | ⟨1, _⟩ =>
        refine (congrArg₂ (fun (a : ℤ) (b : ℕ) => a + (b : ℤ)) (hs1 k) (hw1 k)).trans ?_
        change _ = (j.val : ℤ)
        omega
  by_cases he : q.val < M
  · rw [dif_pos he]
    refine scatter_set_hit _ _ _ _ _ _ (fun k hk => congrArg upd ?_) (ix2 ⟨q.val, he⟩ j) ((hl _).2 ⟨rfl, rfl⟩)
    have := (hl k).1 hk
    exact (ix2_eta k).symm.trans (by congr 1 <;> exact Fin.ext (by first | exact this.1 | exact this.2))
  · rw [dif_neg he]
    refine scatter_set_miss _ _ _ _ _ fun k hk => he ?_
    rw [← ((hl k).1 hk).1]
    exact (k 0).isLt

end Butterfly

end
-- ==== Proof.Blocks.lean ====
module

public import proofs.«01_k».proof.Proof.Gen.KernelIdeal.Launch
public import proofs.«01_k».proof.Proof.Angles
public import proofs.«01_k».proof.Proof.Scatter
public import Idealize.ShloMosaic.Lib.Pipeline.ValueKit
public import Idealize.ShloMosaic.Lib.StableHlo.RunRead
public import Idealize.ShloMosaic.Lib.StableHlo.ReadAt

@[expose] public section

/-!
The parameter table that the host program computes ahead of the kernel, as three blocks side by side.
-/

noncomputable section

namespace Cert.KernelIdeal.Params

open Cert.KernelIdeal.Gen Butterfly
open Idealize.ShloMosaic Idealize.ShloMosaic.TcCoe Idealize.ShloMosaic.Tactic

variable (W : Valuation τ sig (Elt Ideal))

set_option maxHeartbeats 1000000

seal StableHlo.upto in
/-- The parameter table is its three blocks side by side. -/
theorem blocks :
    (StableHlo.after (hostOps0 (F := Ideal)) W main_call0_v211 : S4096x40.Idx → EReal) =
      concatenate S4096x40 1
        [⟨S4096x16, (StableHlo.upto (hostOps0 (F := Ideal)) W 228 main_call0_v208 : S4096x16.Idx → EReal)⟩,
          ⟨S4096x16, (StableHlo.upto (hostOps0 (F := Ideal)) W 228 main_call0_v209 : S4096x16.Idx → EReal)⟩,
          ⟨S4096x8, (StableHlo.upto (hostOps0 (F := Ideal)) W 228 main_call0_v210 : S4096x8.Idx → EReal)⟩]
        concatenates_S4096x16_S4096x16_S4096x8_S4096x40_d1 := by
  after_reads_simp
  rfl

end Cert.KernelIdeal.Params
end
-- ==== Proof.Params.lean ====
module

public import proofs.«01_k».proof.Proof.Gen.KernelIdeal.Launch
public import proofs.«01_k».proof.Proof.Blocks
public import proofs.«01_k».proof.Proof.Angles
public import proofs.«01_k».proof.Proof.Scatter
public import Idealize.ShloMosaic.Lib.Pipeline.ValueKit
public import Idealize.ShloMosaic.Lib.StableHlo.RunRead
public import Idealize.ShloMosaic.Lib.StableHlo.ReadAt

@[expose] public section

/-!
The parameter table that the host program computes ahead of the kernel, column by column: the twelve factors of
the row itself, the twelve of the row further on, the twelve of the row before, the biases and the mask of the
rows that are activated.
-/

noncomputable section

namespace Cert.KernelIdeal.Params

open Cert.KernelIdeal.Gen Butterfly
open Idealize.ShloMosaic Idealize.ShloMosaic.TcCoe Idealize.ShloMosaic.Tactic

variable (W : Valuation τ sig (Elt Ideal))

set_option maxRecDepth 100000
set_option maxHeartbeats 2000000

/-- Column `l` holds the cosine of layer `l`. -/
theorem cosines (r : Fin 4096) (l : Fin 12) :
    StableHlo.after (hostOps0 (F := Ideal)) W main_call0_v211 (ix2 r ⟨l.val, by omega⟩) =
      cosOf (W main_arg1) l.val r.val := by
  rw [blocks]
  fin_cases l
  all_goals pointwise
  all_goals after_reads_simp
  all_goals dsimp only [Matrix.cons_val]
  all_goals simp -implicitDefEqProofs only [StableHlo.TRef.toBuf, StableHlo.TRef.ofBuf, cast_cast, cast_eq]
  all_goals clean_types
  all_goals pointwise
  all_goals after_reads_at
  all_goals exact congrArg Ideal.cos (angle_of _ rfl (by dsimp [place]; try omega))

/-- Column `12 + l` holds the factor of the row further on in layer `l`. -/
theorem pluses (r : Fin 4096) (l : Fin 12) :
    StableHlo.after (hostOps0 (F := Ideal)) W main_call0_v211 (ix2 r ⟨12 + l.val, by omega⟩) =
      plusOf (W main_arg1) l.val r.val := by
  rw [blocks]
  fin_cases l
  all_goals pointwise
  all_goals after_reads_simp
  all_goals dsimp only [Matrix.cons_val]
  all_goals simp -implicitDefEqProofs only [StableHlo.TRef.toBuf, StableHlo.TRef.ofBuf, cast_cast, cast_eq]
  all_goals clean_types
  all_goals pointwise
  all_goals after_reads_at
  all_goals after_reads_at
  all_goals exact plus_of _ (by omega) (fun _ => rfl) (by intro _; dsimp [place]; try omega)

/-- Column `24 + l` holds the factor of the row before in layer `l`. -/
theorem minuses (r : Fin 4096) (l : Fin 12) :
    StableHlo.after (hostOps0 (F := Ideal)) W main_call0_v211 (ix2 r ⟨24 + l.val, by omega⟩) =
      minusOf (W main_arg1) l.val r.val := by
  rw [blocks]
  fin_cases l
  all_goals pointwise
  all_goals after_reads_simp
  all_goals dsimp only [Matrix.cons_val]
  all_goals simp -implicitDefEqProofs only [StableHlo.TRef.toBuf, StableHlo.TRef.ofBuf, cast_cast, cast_eq]
  all_goals clean_types
  all_goals pointwise
  all_goals after_reads_at
  all_goals after_reads_at
  all_goals exact minus_of _ (by omega) (fun _ => rfl) (by intro _; dsimp [place]; try omega)

/-- Column 36 holds the biases of the activated rows. -/
theorem biases (r : Fin 4096) :
    StableHlo.after (hostOps0 (F := Ideal)) W main_call0_v211 (ix2 r 36) = biasOf (W main_arg2) r.val := by
  rw [blocks]
  pointwise
  after_reads_simp
  dsimp only [Matrix.cons_val]
  simp -implicitDefEqProofs only [StableHlo.TRef.toBuf, StableHlo.TRef.ofBuf, cast_cast, cast_eq]
  clean_types
  pointwise
  after_reads_at
  rw [scatter_cols _ rfl rfl rfl rfl _ _ (fun _ => rfl)]
  unfold biasOf
  pointwise
  by_cases h : r.val % 16 < 8
  · rw [dif_pos h, if_pos h]
    exact eq_at1 _ _
  · rw [dif_neg h, if_neg h]

/-- Column 37 marks the activated rows with 1 and the others with 0. -/
theorem mask (r : Fin 4096) :
    StableHlo.after (hostOps0 (F := Ideal)) W main_call0_v211 (ix2 r 37) = maskOf r.val := by
  rw [blocks]
  pointwise
  after_reads_simp
  dsimp only [Matrix.cons_val]
  simp -implicitDefEqProofs only [StableHlo.TRef.toBuf, StableHlo.TRef.ofBuf, cast_cast, cast_eq]
  clean_types
  pointwise
  after_reads_at
  after_reads_at
  unfold maskOf
  split_ifs <;> rfl

end Cert.KernelIdeal.Params

end
-- ==== Proof.Weights.lean ====
module

public import proofs.«01_k».proof.Proof.Gen.KernelIdeal.Launch
public import proofs.«01_k».proof.Proof.Angles
public import Idealize.ShloMosaic.Lib.Pipeline.ValueKit
public import Idealize.ShloMosaic.Lib.StableHlo.RunRead
public import Idealize.ShloMosaic.Lib.StableHlo.ReadAt

@[expose] public section

/-!
The table of input-stage weights that the host program computes ahead of the kernel: the identity of each
256-row block, taken through the six input layers.
-/

noncomputable section

namespace Cert.KernelIdeal.Weights

open Cert.KernelIdeal.Gen Butterfly
open Idealize.ShloMosaic Idealize.ShloMosaic.TcCoe Idealize.ShloMosaic.Tactic

/-- The 28 operations from position `n` of the host program on. -/
abbrev lay (n : ℕ) : List (HloOp τ sig (Elt Ideal)) := ((hostOps0 (F := Ideal)).drop n).take 28

/-- The first `n` operations of the host program. -/
abbrev pre (n : ℕ) : List (HloOp τ sig (Elt Ideal)) := (hostOps0 (F := Ideal)).take n

set_option maxRecDepth 100000 in
set_option maxHeartbeats 4000000 in
/-- The operations of each input layer leave the layer of the table they found. -/
theorem layers :
    (∀ (W : Valuation τ sig (Elt Ideal)) (r : Fin 4096) (k : Fin 256),
      StableHlo.after (lay 239) W main_call0_v247 (ix2 r k) =
        layer (W main_arg1) 4096 0 (fun j => at2 (n := 4096) (m := 256) (W main_call0_v220) j k.val) r.val) ∧
    (∀ (W : Valuation τ sig (Elt Ideal)) (r : Fin 4096) (k : Fin 256),
      StableHlo.after (lay 267) W main_call0_v274 (ix2 r k) =
        layer (W main_arg1) 4096 1 (fun j => at2 (n := 4096) (m := 256) (W main_call0_v247) j k.val) r.val) ∧
    (∀ (W : Valuation τ sig (Elt Ideal)) (r : Fin 4096) (k : Fin 256),
      StableHlo.after (lay 295) W main_call0_v301 (ix2 r k) =
        layer (W main_arg1) 4096 2 (fun j => at2 (n := 4096) (m := 256) (W main_call0_v274) j k.val) r.val) ∧
    (∀ (W : Valuation τ sig (Elt Ideal)) (r : Fin 4096) (k : Fin 256),
      StableHlo.after (lay 323) W main_call0_v328 (ix2 r k) =
        layer (W main_arg1) 4096 3 (fun j => at2 (n := 4096) (m := 256) (W main_call0_v301) j k.val) r.val) ∧
    (∀ (W : Valuation τ sig (Elt Ideal)) (r : Fin 4096) (k : Fin 256),
      StableHlo.after (lay 351) W main_call0_v355 (ix2 r k) =
        layer (W main_arg1) 4096 4 (fun j => at2 (n := 4096) (m := 256) (W main_call0_v328) j k.val) r.val) ∧
    (∀ (W : Valuation τ sig (Elt Ideal)) (r : Fin 4096) (k : Fin 256),
      StableHlo.after (lay 379) W main_call0_v382 (ix2 r k) =
        layer (W main_arg1) 4096 5 (fun j => at2 (n := 4096) (m := 256) (W main_call0_v355) j k.val) r.val) := by
  refine ⟨?_, ?_, ?_, ?_, ?_, ?_⟩
  all_goals intro W r k
  all_goals after_reads_at
  all_goals
    unfold layer near
    refine congrArg₂ (· + ·) (congrArg₂ (· + ·) (congrArg₂ (· * ·) ?t1 ?t2) (congrArg₂ (· * ·) ?t3 ?t4))
      (congrArg₂ (· * ·) ?t5 ?t6)
    case t1 => exact congrArg Ideal.cos (angle_of _ rfl (by dsimp [place]; try omega))
    case t2 => exact eq_at2_of _ _ rfl rfl
    case t3 => after_reads_at; exact plus_of _ (by omega) (fun _ => rfl) (by intro _; dsimp [place]; try omega)
    case t4 => after_reads_at; split_ifs <;> exact eq_at2_of _ _ (by dsimp [up]; try omega) rfl
    case t5 => after_reads_at; exact minus_of _ (by omega) (fun _ => rfl) (by intro _; dsimp [place]; try omega)
    case t6 => after_reads_at; split_ifs <;> exact eq_at2_of _ _ (by dsimp [dn]; try omega) rfl

/-- The table that the layers start from is the identity of each 256-row block. -/
theorem start (W : Valuation τ sig (Elt Ideal)) (r : Fin 4096) (k : Fin 256) :
    StableHlo.after (pre 239) W main_call0_v220 (ix2 r k) = if r.val % 256 = k.val then (1 : EReal) else 0 := by
  after_reads_at
  have h : IntOp.cmpi CmpIPredicate.eq (IntOp.addi (BitVec.ofNat 32 (r.val % 256)) 0#32) (BitVec.ofNat 32 k.val) =
      BitVec.ofBool (decide (r.val % 256 = k.val)) := by
    have hk := k.isLt
    simp only [IntOp.cmpi, IntOp.addi, BitVec.add_zero]
    congr 1
    rw [Bool.eq_iff_iff, beq_iff_eq, decide_eq_true_iff]
    constructor
    · intro h
      have := congrArg BitVec.toNat h
      simp only [BitVec.toNat_ofNat] at this
      omega
    · intro h
      rw [h]
  rw [h]
  by_cases hk : r.val % 256 = k.val
  · simp [hk, FloatOps.uitofp]
  · simp [hk, FloatOps.uitofp]

end Cert.KernelIdeal.Weights

end
-- ==== Proof.Table.lean ====
module

public import proofs.«01_k».proof.Proof.Weights

@[expose] public section

/-!
The table of input-stage weights as a whole: what the host program leaves in it is `table` of the angles.
-/

noncomputable section

namespace Cert.KernelIdeal.Weights

open Cert.KernelIdeal.Gen Butterfly
open Idealize.ShloMosaic Idealize.ShloMosaic.TcCoe Idealize.ShloMosaic.Tactic

variable (W : Valuation τ sig (Elt Ideal))

/-- The first operations, then the next 28. -/
theorem pre_add {n m : ℕ} (h : m = n + 28) :
    StableHlo.after (pre m) W = StableHlo.after (lay n) (StableHlo.after (pre n) W) := by
  rw [h, ← StableHlo.after_append, ← List.take_add]

set_option maxRecDepth 100000 in
/-- No prefix writes the angle table. -/
theorem pre_angles : StableHlo.after (pre 239) W main_arg1 = W main_arg1 ∧
    StableHlo.after (pre 267) W main_arg1 = W main_arg1 ∧ StableHlo.after (pre 295) W main_arg1 = W main_arg1 ∧
    StableHlo.after (pre 323) W main_arg1 = W main_arg1 ∧ StableHlo.after (pre 351) W main_arg1 = W main_arg1 ∧
    StableHlo.after (pre 379) W main_arg1 = W main_arg1 := by
  refine ⟨?_, ?_, ?_, ?_, ?_, ?_⟩ <;> after_reads_simp

/-- A table that one layer's operations leave is the next `table`, when the one before is. -/
theorem step {l : ℕ} {A : S12x2048.Idx → EReal} {X Y : S4096x256.Idx → EReal}
    (hY : ∀ (r : Fin 4096) (k : Fin 256), Y (ix2 r k) = layer A 4096 l (fun j => at2 X j k.val) r.val)
    (hX : ∀ (r : Fin 4096) (k : Fin 256), X (ix2 r k) = table A l r.val k.val) (r : Fin 4096) (k : Fin 256) :
    Y (ix2 r k) = table A (l + 1) r.val k.val := by
  rw [hY r k]
  refine layer_congr (fun j hj => ?_) r.isLt
  rw [at2_in _ hj k.isLt]
  exact hX ⟨j, hj⟩ k

/-- What the host program leaves in the weight table. -/
theorem final (r : Fin 4096) (k : Fin 256) :
    StableHlo.after (hostOps0 (F := Ideal)) W main_call0_v382 (ix2 r k) = table (W main_arg1) 6 r.val k.val := by
  obtain ⟨l0, l1, l2, l3, l4, l5⟩ := layers
  obtain ⟨a0, a1, a2, a3, a4, a5⟩ := pre_angles W
  have h0 := start W
  have h1 : ∀ (r : Fin 4096) (k : Fin 256), StableHlo.after (pre 267) W main_call0_v247 (ix2 r k) =
      table (W main_arg1) 1 r.val k.val :=
    step (fun r k => by rw [pre_add W (n := 239) (m := 267) rfl, l0, a0]) h0
  have h2 : ∀ (r : Fin 4096) (k : Fin 256), StableHlo.after (pre 295) W main_call0_v274 (ix2 r k) =
      table (W main_arg1) 2 r.val k.val :=
    step (fun r k => by rw [pre_add W (n := 267) (m := 295) rfl, l1, a1]) h1
  have h3 : ∀ (r : Fin 4096) (k : Fin 256), StableHlo.after (pre 323) W main_call0_v301 (ix2 r k) =
      table (W main_arg1) 3 r.val k.val :=
    step (fun r k => by rw [pre_add W (n := 295) (m := 323) rfl, l2, a2]) h2
  have h4 : ∀ (r : Fin 4096) (k : Fin 256), StableHlo.after (pre 351) W main_call0_v328 (ix2 r k) =
      table (W main_arg1) 4 r.val k.val :=
    step (fun r k => by rw [pre_add W (n := 323) (m := 351) rfl, l3, a3]) h3
  have h5 : ∀ (r : Fin 4096) (k : Fin 256), StableHlo.after (pre 379) W main_call0_v355 (ix2 r k) =
      table (W main_arg1) 5 r.val k.val :=
    step (fun r k => by rw [pre_add W (n := 351) (m := 379) rfl, l4, a4]) h4
  exact step (fun r k => by
    rw [← List.take_of_length_le (l := hostOps0 (F := Ideal)) (i := 407) (le_of_eq rfl),
      pre_add W (n := 379) (m := 407) rfl, l5, a5]) h5 r k

end Cert.KernelIdeal.Weights

end
-- ==== Proof.Column.lean ====
module

public import proofs.«01_k».proof.Proof.Angles

@[expose] public section

/-!
A column of the kernel is the butterfly network on that column.

The network is written as twelve layers of `pair` with the activation between layers 5 and 6.  The kernel's rotated
layers are `pair` layers because one of the two neighbours always has the factor zero; its input stage is the six
layers because the table of weights is the six layers of the identity, and a sum of real numbers may be rearranged.
-/

noncomputable section

namespace Butterfly

open Idealize.ShloMosaic

variable (A : (⟨2, ![12, 2048]⟩ : Shape).Idx → EReal) (b : (⟨1, ![2048]⟩ : Shape).Idx → EReal)

/-- Layer `l` of the network: the row and the row it is paired with. -/
def pair (l : ℕ) (x : ℕ → EReal) (r : ℕ) : EReal := far (2 ^ l) (cosOf A l) (plusOf A l) (minusOf A l) x r

/-- The first `l` layers of the network. -/
def through : ℕ → (ℕ → EReal) → ℕ → EReal
  | 0, x => x
  | l + 1, x => pair A l (through l x)

/-- The activation of the first eight rows of each 16. -/
def active (x : ℕ → EReal) (r : ℕ) : EReal :=
  if r % 16 < 8 then Ideal.sqrt (x r * x r + 1) - 1 + at1 b (r / 16 * 8 + r % 16) else x r

/-- The whole network on a column. -/
def network (x : ℕ → EReal) : ℕ → EReal :=
  pair A 11 (pair A 10 (pair A 9 (pair A 8 (pair A 7 (pair A 6 (active b (through A 6 x)))))))

variable {A b}

/-- The row paired with a row lies in the column too. -/
theorem partner_lt_pow {l r : ℕ} (hl : l < 12) (hr : r < 4096) : partner (2 ^ l) r < 4096 := by
  unfold partner
  interval_cases l <;> (norm_num; split <;> omega)

/-- A layer reads its column at rows below 4096 only. -/
theorem pair_congr {l r : ℕ} {x y : ℕ → EReal} (hl : l < 12) (h : ∀ j < 4096, x j = y j) (hr : r < 4096) :
    pair A l x r = pair A l y r := by
  unfold pair far
  rw [h r hr, h _ (partner_lt_pow hl hr)]

theorem up_eq {n l r : ℕ} (hn : n = 4096 ∧ l < 6 ∨ n = 512 ∧ l < 9) (hr : r < 4096) (h : r / 2 ^ l % 2 < 1) :
    up n (2 ^ l) r = r + 2 ^ l := by
  unfold up
  rcases hn with ⟨rfl, hl⟩ | ⟨rfl, hl⟩ <;> interval_cases l <;> omega

theorem dn_eq {n l r : ℕ} (hn : n = 4096 ∧ l < 6 ∨ n = 512 ∧ l < 9) (hr : r < 4096) (h : ¬ r / 2 ^ l % 2 < 1) :
    dn n (2 ^ l) r = r - 2 ^ l := by
  unfold dn
  rcases hn with ⟨rfl, hl⟩ | ⟨rfl, hl⟩ <;> interval_cases l <;> omega

/-- A rotated layer is a layer of the network: of the two neighbours only the paired row counts. -/
theorem layer_eq_pair {n l r : ℕ} (hn : n = 4096 ∧ l < 6 ∨ n = 512 ∧ l < 9) (hr : r < 4096) (x : ℕ → EReal) :
    layer A n l x r = pair A l x r := by
  unfold layer near pair far partner
  by_cases h : r / 2 ^ l % 2 < 1
  · have hm : minusOf A l r = 0 := if_pos h
    rw [hm, zero_mul, add_zero, add_zero, up_eq hn hr h, if_pos (by omega)]
  · have hp : plusOf A l r = 0 := if_neg h
    rw [hp, zero_mul, add_zero, zero_add, dn_eq hn hr h, if_neg (by omega)]

/-- The factors of a row are real where its angle is. -/
theorem factors_real {l r : ℕ} (h : ∃ a : ℝ, angle A l r = a) :
    ∃ c s : ℝ, cosOf A l r = c ∧ plusOf A l r + minusOf A l r = s := by
  obtain ⟨a, ha⟩ := h
  refine ⟨Real.cos a, if r / 2 ^ l % 2 < 1 then Real.sin a else -Real.sin a, ?_, ?_⟩
  · unfold cosOf; rw [ha]; rfl
  · unfold plusOf minusOf
    rw [ha]
    split_ifs
    · rw [add_zero]; rfl
    · rw [zero_add]; rfl

/-- The place of a row's angle lies in the table. -/
theorem place_lt {l r : ℕ} (hl : l < 12) (hr : r < 4096) : place l r < 2048 := by
  unfold place
  interval_cases l <;> omega

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- A sum of real products is linear in its first factors. -/
theorem sum_linear {n : ℕ} (c s : ℝ) {T U y : Fin n → EReal} (hT : ∀ k, ∃ a : ℝ, T k = a) (hU : ∀ k, ∃ a : ℝ, U k = a)
    (hy : ∀ k, ∃ a : ℝ, y k = a) :
    ∑ k, ((c : EReal) * T k + s * U k) * y k = c * ∑ k, T k * y k + s * ∑ k, U k * y k := by
  choose t ht using hT
  choose u hu using hU
  choose z hz using hy
  simp only [ht, hu, hz, ← EReal.coe_mul, ← EReal.coe_add, coe_sum]
  congr 1
  rw [Finset.mul_sum, Finset.mul_sum, ← Finset.sum_add_distrib]
  exact Finset.sum_congr rfl fun k _ => by ring

section

variable (hA : ∀ l < 6, ∀ j < 2048, ∃ a : ℝ, at2 A l j = a)

include hA

theorem angle_real {l r : ℕ} (hl : l < 6) (hr : r < 4096) : ∃ a : ℝ, angle A l r = a :=
  hA l hl _ (place_lt (by omega) hr)

/-- A layer keeps real numbers real. -/
theorem pair_real {l : ℕ} (hl : l < 6) {x : ℕ → EReal} (hx : ∀ r < 4096, ∃ a : ℝ, x r = a) {r : ℕ} (hr : r < 4096) :
    ∃ a : ℝ, pair A l x r = a := by
  obtain ⟨c, s, hc, hs⟩ := factors_real (angle_real hA hl hr)
  obtain ⟨u, hu⟩ := hx r hr
  obtain ⟨v, hv⟩ := hx _ (partner_lt_pow (l := l) (by omega) hr)
  refine ⟨c * u + s * v, ?_⟩
  unfold pair far
  rw [hc, hs, hu, hv, EReal.coe_add, EReal.coe_mul, EReal.coe_mul]

/-- The table of weights is real. -/
theorem table_real {l : ℕ} (hl : l ≤ 6) (k : ℕ) : ∀ r < 4096, ∃ a : ℝ, table A l r k = a := by
  induction l with
  | zero =>
    intro r _
    unfold table
    split_ifs
    · exact ⟨1, rfl⟩
    · exact ⟨0, rfl⟩
  | succ l ih =>
    intro r hr
    unfold table
    rw [layer_eq_pair (.inl ⟨rfl, by omega⟩) hr]
    exact pair_real hA (by omega) (ih (by omega)) hr

/-- The first layers keep a real column real. -/
theorem through_real {l : ℕ} (hl : l ≤ 6) {x : ℕ → EReal} (hx : ∀ r < 4096, ∃ a : ℝ, x r = a) :
    ∀ r < 4096, ∃ a : ℝ, through A l x r = a := by
  induction l with
  | zero => exact hx
  | succ l ih => exact fun r hr => pair_real hA (by omega) (ih (by omega)) hr

/-- A real column multiplied by the table of `l` layers has gone through `l` layers. -/
theorem mix_table {l : ℕ} (hl : l ≤ 6) {x : ℕ → EReal} (hx : ∀ r < 4096, ∃ a : ℝ, x r = a) :
    ∀ r < 4096, mix (table A l) x r = through A l x r := by
  induction l with
  | zero =>
    intro r hr
    unfold mix through
    rw [Finset.sum_eq_single (⟨r % 256, Nat.mod_lt _ (by decide)⟩ : Fin 256)]
    · unfold table
      rw [if_pos rfl, one_mul]
      congr 1
      dsimp only
      omega
    · intro k _ hk
      unfold table
      rw [if_neg fun h => hk (Fin.ext h.symm), zero_mul]
    · exact fun h => absurd (Finset.mem_univ _) h
  | succ l ih =>
    intro r hr
    have hp : partner (2 ^ l) r < 4096 := partner_lt_pow (by omega) hr
    have hq : partner (2 ^ l) r / 256 = r / 256 := by
      have : l < 6 := by omega
      unfold partner
      interval_cases l <;> (norm_num; split <;> omega)
    obtain ⟨c, s, hc, hs⟩ := factors_real (angle_real hA (by omega : l < 6) hr)
    have h1 := ih (by omega) r hr
    have h2 := ih (by omega) _ hp
    unfold mix at h1 h2 ⊢
    rw [hq] at h2
    have e : ∀ k : Fin 256, table A (l + 1) r k =
        (c : EReal) * table A l r k + s * table A l (partner (2 ^ l) r) k := by
      intro k
      show layer A 4096 l (fun j => table A l j k) r = _
      rw [layer_eq_pair (.inl ⟨rfl, by omega⟩) hr]
      unfold pair far
      rw [hc, hs]
    simp only [e]
    rw [sum_linear c s (fun k => table_real hA (by omega) _ r hr) (fun k => table_real hA (by omega) _ _ hp)
      (fun k => hx _ (by omega)), h1, h2]
    show _ = pair A l (through A l x) r
    unfold pair far
    rw [hc, hs]

end

/-- The blended activation of a real column is the activation. -/
theorem act_eq {x : ℕ → EReal} {r : ℕ} (hx : ∃ a : ℝ, x r = a) : act (biasOf b) maskOf x r = active b x r := by
  obtain ⟨a, ha⟩ := hx
  unfold act active biasOf maskOf
  rw [ha]
  by_cases h : r % 16 < 8
  · simp only [if_pos h, one_mul]
    generalize Ideal.sqrt (a * a + 1) - 1 + at1 b (r / 16 * 8 + r % 16) = v
    induction v with
    | bot => rfl
    | top => rfl
    | coe v => rw [← EReal.coe_sub, ← EReal.coe_add]; congr 1; ring
  · simp only [if_neg h, zero_mul, add_zero]

/-- A column of the kernel is the network on it. -/
theorem column_eq {p w : ℕ → ℕ → EReal} {x : ℕ → EReal} (hA : ∀ l < 6, ∀ j < 2048, ∃ a : ℝ, at2 A l j = a)
    (hx : ∀ r < 4096, ∃ a : ℝ, x r = a)
    (hc : ∀ r < 4096, ∀ l < 12, p r l = cosOf A l r) (hp : ∀ r < 4096, ∀ l < 12, p r (12 + l) = plusOf A l r)
    (hm : ∀ r < 4096, ∀ l < 12, p r (24 + l) = minusOf A l r)
    (hb : ∀ r < 4096, p r 36 = biasOf b r) (hk : ∀ r < 4096, p r 37 = maskOf r)
    (hw : ∀ r < 4096, ∀ k < 256, w r k = table A 6 r k) {r : ℕ} (hr : r < 4096) :
    column p w x r = network A b x r := by
  have hfar : ∀ (l s : ℕ) (y : ℕ → EReal), l < 12 → s = 2 ^ l → ∀ r < 4096, farL p l s y r = pair A l y r := by
    intro l s y hl hs r hr
    unfold farL pair far col
    rw [hc r hr l hl, hp r hr l hl, hm r hr l hl, hs]
  have hnear : ∀ (l s : ℕ) (y : ℕ → EReal), l < 9 → s = 2 ^ l → ∀ r < 4096, nearL p l s y r = pair A l y r := by
    intro l s y hl hs r hr
    rw [← layer_eq_pair (.inr ⟨rfl, hl⟩) hr]
    unfold nearL layer near col
    rw [hc r hr l (by omega), hp r hr l (by omega), hm r hr l (by omega), hs]
  have h5 : ∀ r < 4096, act (col p 36) (col p 37) (mix w x) r = active b (through A 6 x) r := by
    intro r hr
    have e : mix w x r = through A 6 x r := by
      rw [← mix_table hA le_rfl hx r hr]
      exact Finset.sum_congr rfl fun k _ => by rw [hw r hr k k.isLt]
    have e2 : act (col p 36) (col p 37) (mix w x) r = act (biasOf b) maskOf (through A 6 x) r := by
      unfold act col
      rw [hb r hr, hk r hr, e]
    rw [e2, act_eq (through_real hA le_rfl hx r hr)]
  have h6 : ∀ r < 4096, _ = _ := fun r hr => (hnear 6 64 _ (by omega) rfl r hr).trans (pair_congr (by omega) h5 hr)
  have h7 : ∀ r < 4096, _ = _ := fun r hr => (hnear 7 128 _ (by omega) rfl r hr).trans (pair_congr (by omega) h6 hr)
  have h8 : ∀ r < 4096, _ = _ := fun r hr => (hnear 8 256 _ (by omega) rfl r hr).trans (pair_congr (by omega) h7 hr)
  have h9 : ∀ r < 4096, _ = _ := fun r hr => (hfar 9 512 _ (by omega) rfl r hr).trans (pair_congr (by omega) h8 hr)
  have h10 : ∀ r < 4096, _ = _ := fun r hr => (hfar 10 1024 _ (by omega) rfl r hr).trans (pair_congr (by omega) h9 hr)
  exact (hfar 11 2048 _ (by omega) rfl r hr).trans (pair_congr (by omega) h10 hr)

end Butterfly

end
-- ==== Proof.Result.lean ====
module

public import proofs.«01_k».proof.Proof.KernelRun
public import proofs.«01_k».proof.Proof.Params
public import proofs.«01_k».proof.Proof.Table
public import proofs.«01_k».proof.Proof.Column

@[expose] public section

/-!
The kernel's result: the butterfly network on each column of the first 4096 rows, the other rows kept.
-/

noncomputable section

namespace Cert.KernelIdeal.Run

open Cert.KernelIdeal.Gen Butterfly
open Idealize.ShloMosaic Idealize.ShloMosaic.TcCoe

variable (m : (ℓ : Loc nD τ sig) → Buf (Elt Ideal) ℓ) (c : Dev nD)

/-- The launch contents of a core. -/
abbrev atLaunch : Valuation τ sig (Elt Ideal) := fun b => m (c, b)

theorem params_eq : params m c = StableHlo.after (hostOps0 (F := Ideal)) (atLaunch m c) main_call0_v211 := rfl
theorem weights_eq : weights m c = StableHlo.after (hostOps0 (F := Ideal)) (atLaunch m c) main_call0_v382 := rfl

/-- The kernel's result at an index. -/
theorem result_network
    (hA : ∀ l < 6, ∀ j < 2048, ∃ a : ℝ, at2 (n := 12) (m := 2048) (m ((c : Thread nD τ).loc main_arg1)) l j = a)
    (hx : ∀ r < 4096, ∀ j < 2048, ∃ a : ℝ, at2 (n := 8192) (m := 2048) (m ((c : Thread nD τ).loc main_arg0)) r j = a)
    (r : Fin 8192) (j : Fin 2048) :
    result m c (ix2 r j) =
      if r.val < 4096 then network (m ((c : Thread nD τ).loc main_arg1)) (m ((c : Thread nD τ).loc main_arg2))
        (fun q => at2 (n := 8192) (m := 2048) (m ((c : Thread nD τ).loc main_arg0)) q j.val) r.val
      else m ((c : Thread nD τ).loc main_arg0) (ix2 r j) := by
  unfold result
  by_cases h : r.val < 4096
  · refine (if_pos h).trans (Eq.trans ?_ (if_pos h).symm)
    refine column_eq hA (fun q hq => hx q hq j.val j.isLt) ?_ ?_ ?_ ?_ ?_ ?_ h
    · intro q hq l hl
      rw [at2_in _ hq (by omega), params_eq]
      exact Params.cosines (atLaunch m c) ⟨q, hq⟩ ⟨l, hl⟩
    · intro q hq l hl
      rw [at2_in _ hq (by omega), params_eq]
      exact Params.pluses (atLaunch m c) ⟨q, hq⟩ ⟨l, hl⟩
    · intro q hq l hl
      rw [at2_in _ hq (by omega), params_eq]
      exact Params.minuses (atLaunch m c) ⟨q, hq⟩ ⟨l, hl⟩
    · intro q hq
      rw [at2_in _ hq (by omega), params_eq]
      exact Params.biases (atLaunch m c) ⟨q, hq⟩
    · intro q hq
      rw [at2_in _ hq (by omega), params_eq]
      exact Params.mask (atLaunch m c) ⟨q, hq⟩
    · intro q hq k hk
      rw [at2_in _ hq hk, weights_eq]
      exact Weights.final (atLaunch m c) ⟨q, hq⟩ ⟨k, hk⟩
  · exact (if_neg h).trans (if_neg h).symm

end Cert.KernelIdeal.Run

end
-- ==== Proof.RefPair.lean ====
module

public import proofs.«01_k».proof.Proof.Gen.ReferenceIdeal.Run
public import proofs.«01_k».proof.Proof.Column
public import Idealize.ShloMosaic.Lib.Pipeline.ValueKit
public import Idealize.ShloMosaic.Lib.StableHlo.RunRead
public import Idealize.ShloMosaic.Lib.StableHlo.ReadAt

@[expose] public section

/-!
One layer of the reference program at a row, as its operations spell it out.
-/

noncomputable section

namespace Butterfly

open Idealize.ShloMosaic

variable {A : (⟨2, ![12, 2048]⟩ : Shape).Idx → EReal} {X : (⟨2, ![4096, 2048]⟩ : Shape).Idx → EReal} {l r j : ℕ}

/-- A layer at a row whose bit `l` is clear, read out of the tables. -/
theorem pair_clear (h : r / 2 ^ l % 2 < 1) (i i' : (⟨2, ![12, 2048]⟩ : Shape).Idx) (k k' : (⟨2, ![4096, 2048]⟩ : Shape).Idx)
    (hi : (i 0).val = l ∧ (i 1).val = place l r) (hi' : (i' 0).val = l ∧ (i' 1).val = place l r)
    (hk : (k 0).val = r ∧ (k 1).val = j) (hk' : (k' 0).val = r + 2 ^ l ∧ (k' 1).val = j) :
    Ideal.cos (A i) * X k + Ideal.sin (A i') * X k' = pair A l (fun q => at2 X q j) r := by
  unfold pair far partner cosOf plusOf minusOf
  dsimp only
  rw [if_pos (show r / 2 ^ l % 2 = 0 by omega), if_pos h, if_pos h, add_zero, angle_of (A := A) i hi.1 hi.2, angle_of (A := A) i' hi'.1 hi'.2,
    eq_at2_of X k hk.1 hk.2, eq_at2_of X k' hk'.1 hk'.2]

/-- A layer at a row whose bit `l` is set, read out of the tables. -/
theorem pair_set (h : ¬ r / 2 ^ l % 2 < 1) (i i' : (⟨2, ![12, 2048]⟩ : Shape).Idx) (k k' : (⟨2, ![4096, 2048]⟩ : Shape).Idx)
    (hi : (i 0).val = l ∧ (i 1).val = place l r) (hi' : (i' 0).val = l ∧ (i' 1).val = place l r)
    (hk : (k 0).val = r - 2 ^ l ∧ (k 1).val = j) (hk' : (k' 0).val = r ∧ (k' 1).val = j) :
    -Ideal.sin (A i) * X k + Ideal.cos (A i') * X k' = pair A l (fun q => at2 X q j) r := by
  unfold pair far partner cosOf plusOf minusOf
  dsimp only
  rw [if_neg (show ¬ r / 2 ^ l % 2 = 0 by omega), if_neg h, if_neg h, zero_add, angle_of (A := A) i hi.1 hi.2, angle_of (A := A) i' hi'.1 hi'.2,
    eq_at2_of X k hk.1 hk.2, eq_at2_of X k' hk'.1 hk'.2, add_comm]

/-- A statement about a layer holds if it holds for either value of the row's bit. -/
theorem pair_cases {x : ℕ → EReal} {v : EReal} (h : r / 2 ^ l % 2 < 1 → v = pair A l x r)
    (h' : ¬ r / 2 ^ l % 2 < 1 → v = pair A l x r) : v = pair A l x r := by
  by_cases hb : r / 2 ^ l % 2 < 1
  exacts [h hb, h' hb]

/-- Matrices that agree at every row and column are equal. -/
theorem ext2 {n m : ℕ} {X Y : (⟨2, ![n, m]⟩ : Shape).Idx → EReal}
    (h : ∀ (r : Fin n) (j : Fin m), X (ix2 r j) = Y (ix2 r j)) : X = Y := by
  funext i
  rw [← ix2_eta i]
  exact h (i 0) (i 1)

end Butterfly

namespace Cert.ReferenceIdeal.Layers

open Cert.ReferenceIdeal Cert.ReferenceIdeal.Value Butterfly
open Idealize.ShloMosaic Idealize.ShloMosaic.TcCoe Idealize.ShloMosaic.Tactic

/-- The 26 operations from position `n` of the program on. -/
abbrev lay (n : ℕ) : List (HloOp τ sig (Elt Ideal)) := ((Value.ops (F := Ideal)).drop n).take 26

end Cert.ReferenceIdeal.Layers

end
-- ==== Proof.RefInner.lean ====
module

public import proofs.«01_k».proof.Proof.RefPair

@[expose] public section

/-!
Layers 0 to 5 of the reference program, each as its 26 operations leave it.
-/

noncomputable section

namespace Cert.ReferenceIdeal.Layers

open Cert.ReferenceIdeal Cert.ReferenceIdeal.Value Butterfly
open Idealize.ShloMosaic Idealize.ShloMosaic.TcCoe Idealize.ShloMosaic.Tactic

set_option maxRecDepth 100000 in
set_option maxHeartbeats 8000000 in
/-- The operations of each layer leave the layer of the rows they found. -/
theorem inner :
    (∀ (W : Valuation τ sig (Elt Ideal)) (r : Fin 4096) (j : Fin 2048),
      StableHlo.after (lay 9) W main_v32 (ix2 r j) =
        pair (W main_arg1) 0 (fun q => at2 (n := 4096) (m := 2048) (W main_v6) q j.val) r.val) ∧
    (∀ (W : Valuation τ sig (Elt Ideal)) (r : Fin 4096) (j : Fin 2048),
      StableHlo.after (lay 35) W main_v58 (ix2 r j) =
        pair (W main_arg1) 1 (fun q => at2 (n := 4096) (m := 2048) (W main_v32) q j.val) r.val) ∧
    (∀ (W : Valuation τ sig (Elt Ideal)) (r : Fin 4096) (j : Fin 2048),
      StableHlo.after (lay 61) W main_v84 (ix2 r j) =
        pair (W main_arg1) 2 (fun q => at2 (n := 4096) (m := 2048) (W main_v58) q j.val) r.val) ∧
    (∀ (W : Valuation τ sig (Elt Ideal)) (r : Fin 4096) (j : Fin 2048),
      StableHlo.after (lay 87) W main_v110 (ix2 r j) =
        pair (W main_arg1) 3 (fun q => at2 (n := 4096) (m := 2048) (W main_v84) q j.val) r.val) ∧
    (∀ (W : Valuation τ sig (Elt Ideal)) (r : Fin 4096) (j : Fin 2048),
      StableHlo.after (lay 113) W main_v136 (ix2 r j) =
        pair (W main_arg1) 4 (fun q => at2 (n := 4096) (m := 2048) (W main_v110) q j.val) r.val) ∧
    (∀ (W : Valuation τ sig (Elt Ideal)) (r : Fin 4096) (j : Fin 2048),
      StableHlo.after (lay 139) W main_v162 (ix2 r j) =
        pair (W main_arg1) 5 (fun q => at2 (n := 4096) (m := 2048) (W main_v136) q j.val) r.val) := by
  refine ⟨?_, ?_, ?_, ?_, ?_, ?_⟩
  all_goals
    intro W r j
    have hr := r.isLt
    after_reads_simp
    clean_types
    simp only [fn_main_v31, fn_main_v57, fn_main_v83, fn_main_v109, fn_main_v135, fn_main_v161]
    pointwise
    refine pair_cases (fun h => ?_) (fun h => ?_)
    · refine (dif_pos (by omega)).trans ?_
      refine pair_clear h _ _ _ _ ⟨rfl, ?_⟩ ⟨rfl, ?_⟩ ⟨?_, rfl⟩ ⟨?_, rfl⟩ <;> (dsimp [place]; try omega)
    · refine (dif_neg (by omega)).trans ?_
      refine pair_set h _ _ _ _ ⟨rfl, ?_⟩ ⟨rfl, ?_⟩ ⟨?_, rfl⟩ ⟨?_, rfl⟩ <;> (dsimp [place]; try omega)

end Cert.ReferenceIdeal.Layers

end
-- ==== Proof.RefOuter.lean ====
module

public import proofs.«01_k».proof.Proof.RefPair

@[expose] public section

/-!
Layers 6 to 11 of the reference program, each as its 26 operations leave it.
-/

noncomputable section

namespace Cert.ReferenceIdeal.Layers

open Cert.ReferenceIdeal Cert.ReferenceIdeal.Value Butterfly
open Idealize.ShloMosaic Idealize.ShloMosaic.TcCoe Idealize.ShloMosaic.Tactic

set_option maxRecDepth 100000 in
set_option maxHeartbeats 8000000 in
/-- The operations of each layer leave the layer of the rows they found. -/
theorem outer :
    (∀ (W : Valuation τ sig (Elt Ideal)) (r : Fin 4096) (j : Fin 2048),
      StableHlo.after (lay 182) W main_v202 (ix2 r j) =
        pair (W main_arg1) 6 (fun q => at2 (n := 4096) (m := 2048) (W main_v176) q j.val) r.val) ∧
    (∀ (W : Valuation τ sig (Elt Ideal)) (r : Fin 4096) (j : Fin 2048),
      StableHlo.after (lay 208) W main_v228 (ix2 r j) =
        pair (W main_arg1) 7 (fun q => at2 (n := 4096) (m := 2048) (W main_v202) q j.val) r.val) ∧
    (∀ (W : Valuation τ sig (Elt Ideal)) (r : Fin 4096) (j : Fin 2048),
      StableHlo.after (lay 234) W main_v254 (ix2 r j) =
        pair (W main_arg1) 8 (fun q => at2 (n := 4096) (m := 2048) (W main_v228) q j.val) r.val) ∧
    (∀ (W : Valuation τ sig (Elt Ideal)) (r : Fin 4096) (j : Fin 2048),
      StableHlo.after (lay 260) W main_v280 (ix2 r j) =
        pair (W main_arg1) 9 (fun q => at2 (n := 4096) (m := 2048) (W main_v254) q j.val) r.val) ∧
    (∀ (W : Valuation τ sig (Elt Ideal)) (r : Fin 4096) (j : Fin 2048),
      StableHlo.after (lay 286) W main_v306 (ix2 r j) =
        pair (W main_arg1) 10 (fun q => at2 (n := 4096) (m := 2048) (W main_v280) q j.val) r.val) ∧
    (∀ (W : Valuation τ sig (Elt Ideal)) (r : Fin 4096) (j : Fin 2048),
      StableHlo.after (lay 312) W main_v332 (ix2 r j) =
        pair (W main_arg1) 11 (fun q => at2 (n := 4096) (m := 2048) (W main_v306) q j.val) r.val) := by
  refine ⟨?_, ?_, ?_, ?_, ?_, ?_⟩
  all_goals
    intro W r j
    have hr := r.isLt
    after_reads_simp
    clean_types
    simp only [fn_main_v201, fn_main_v227, fn_main_v253, fn_main_v279, fn_main_v305, fn_main_v331]
    pointwise
    refine pair_cases (fun h => ?_) (fun h => ?_)
    · refine (dif_pos (by omega)).trans ?_
      refine pair_clear h _ _ _ _ ⟨rfl, ?_⟩ ⟨rfl, ?_⟩ ⟨?_, rfl⟩ ⟨?_, rfl⟩ <;> (dsimp [place]; try omega)
    · refine (dif_neg (by omega)).trans ?_
      refine pair_set h _ _ _ _ ⟨rfl, ?_⟩ ⟨rfl, ?_⟩ ⟨?_, rfl⟩ ⟨?_, rfl⟩ <;> (dsimp [place]; try omega)

end Cert.ReferenceIdeal.Layers

end
-- ==== Proof.RefEnds.lean ====
module

public import proofs.«01_k».proof.Proof.RefPair
public import proofs.«01_k».proof.Proof.Scatter
public import Idealize.ShloMosaic.Lib.Routing.Ops

@[expose] public section

/-!
The rest of the reference program: the rows it gathers, the activation between layers 5 and 6, and the rows it writes.
-/

noncomputable section

namespace Cert.ReferenceIdeal.Layers

open Cert.ReferenceIdeal Cert.ReferenceIdeal.Value Butterfly
open Idealize.ShloMosaic Idealize.ShloMosaic.TcCoe Idealize.ShloMosaic.Tactic

/-- Row numbers, wrapped when negative, are the row numbers themselves. -/
theorem wrapped (I : S4096.Idx → BitVec 32) (hI : ∀ r : Fin 4096, I (ix1 r) = BitVec.ofNat 32 r.val) (r : Fin 4096) :
    broadcastInDim S4096x1 ![0] Gen.bcast_S4096_S4096x1_0
        (select (cmpi CmpIPredicate.slt I (broadcastInDim S4096 ![] Gen.bcast_S_S4096 (constantI S_ 32 0#32)))
          (addi I (broadcastInDim S4096 ![] Gen.bcast_S_S4096 (constantI S_ 32 8192#32))) I) (ix2 r 0) =
      BitVec.ofNat 32 r.val := by
  pointwise
  rw [hI r]
  have h : IntOp.cmpi CmpIPredicate.slt (BitVec.ofNat 32 r.val) 0#32 = 0#1 := by
    have hr := r.isLt
    simp only [IntOp.cmpi]
    rw [show (BitVec.ofNat 32 r.val).slt 0#32 = false from ?_]
    · rfl
    · rw [BitVec.slt_zero_eq_msb, BitVec.msb_eq_decide, decide_eq_false_iff_not, BitVec.toNat_ofNat]
      omega
  rw [h]
  rfl

set_option maxRecDepth 100000 in
/-- The first operations gather the first 4096 rows. -/
theorem gathered (W : Valuation τ sig (Elt Ideal)) (hI : ∀ r : Fin 4096, W main_arg3 (ix1 r) = BitVec.ofNat 32 r.val)
    (r : Fin 4096) (j : Fin 2048) :
    StableHlo.after ((Value.ops (F := Ideal)).take 9) W main_v6 (ix2 r j) = W main_arg0 (ix2 ⟨r.val, by omega⟩ j) := by
  after_reads_at
  exact Routing.gather_row (nb := 8192) (B := 2048) (n := 4096) _ rfl rfl rfl rfl rfl _ _ r j ⟨r.val, by omega⟩
    (wrapped _ hI r) (by norm_num)

set_option maxRecDepth 100000 in
/-- The operations between layers 5 and 6 apply the activation. -/
theorem activated (W : Valuation τ sig (Elt Ideal)) (r : Fin 4096) (j : Fin 2048) :
    StableHlo.after (((Value.ops (F := Ideal)).drop 165).take 17) W main_v176 (ix2 r j) =
      active (W main_arg2) (fun q => at2 (n := 4096) (m := 2048) (W main_v162) q j.val) r.val := by
  after_reads_at
  rw [scatter_middle _ rfl rfl rfl rfl _ _ (fun _ => rfl)]
  pointwise
  have hx : ∀ h, W main_v162 (ix2 (⟨r.val / 16 * 16 + r.val % 16, h⟩ : Fin 4096) j) =
      at2 (n := 4096) (m := 2048) (W main_v162) r.val j.val := fun h => eq_at2_of _ _ (by dsimp; omega) rfl
  have hb : ∀ h, W main_arg2 (ix1 (⟨r.val / 16 * 8 + r.val % 16, h⟩ : Fin 2048)) =
      at1 (n := 2048) (W main_arg2) (r.val / 16 * 8 + r.val % 16) := fun h => eq_at1 _ _
  unfold active
  by_cases h : r.val % 16 < 8
  · refine (dif_pos h).trans (Eq.trans ?_ (if_pos h).symm)
    rw [hx, hb]
  · refine (dif_neg h).trans (Eq.trans ?_ (if_neg h).symm)
    rw [hx]

set_option maxRecDepth 100000 in
/-- The last operations write the first 4096 rows over the data. -/
theorem written (W : Valuation τ sig (Elt Ideal)) (hI : ∀ r : Fin 4096, W main_arg4 (ix1 r) = BitVec.ofNat 32 r.val)
    (r : Fin 8192) (j : Fin 2048) :
    StableHlo.after ((Value.ops (F := Ideal)).drop 338) W main_v339 (ix2 r j) =
      if h : r.val < 4096 then W main_v332 (ix2 ⟨r.val, h⟩ j) else W main_arg0 (ix2 r j) := by
  after_reads_at
  refine scatter_rows _ rfl rfl rfl rfl _ _ (fun q => ?_) _ r j
  rw [wrapped _ hI q, BitVec.toInt_eq_toNat_bmod, BitVec.toNat_ofNat, Int.bmod_def]
  have hq := q.isLt
  omega

end Cert.ReferenceIdeal.Layers

end
-- ==== Proof.RefValue.lean ====
module

public import proofs.«01_k».proof.Proof.RefInner
public import proofs.«01_k».proof.Proof.RefOuter
public import proofs.«01_k».proof.Proof.RefEnds

@[expose] public section

/-!
The value of the reference program: the butterfly network on each column of the first 4096 rows, the other rows kept.
-/

noncomputable section

namespace Cert.ReferenceIdeal.Layers

open Cert.ReferenceIdeal Cert.ReferenceIdeal.Value Butterfly
open Idealize.ShloMosaic Idealize.ShloMosaic.TcCoe Idealize.ShloMosaic.Tactic

/-- The first `n` operations of the program. -/
abbrev pre (n : ℕ) : List (HloOp τ sig (Elt Ideal)) := (Value.ops (F := Ideal)).take n

variable (W : Valuation τ sig (Elt Ideal))

/-- The first operations, then the next `k`. -/
theorem pre_add {n m k : ℕ} (h : m = n + k) :
    StableHlo.after (pre m) W = StableHlo.after (((Value.ops (F := Ideal)).drop n).take k) (StableHlo.after (pre n) W) := by
  rw [h, ← StableHlo.after_append, ← List.take_add]

/-- The first operations, then all the others. -/
theorem pre_rest (n : ℕ) :
    StableHlo.after (Value.ops (F := Ideal)) W =
      StableHlo.after ((Value.ops (F := Ideal)).drop n) (StableHlo.after (pre n) W) := by
  rw [← StableHlo.after_append, List.take_append_drop]

/-- A buffer that no part of the program writes is as it was after every prefix. -/
theorem kept {x : Ref sig .tc} (h : x ∉ ops_part0_W ∧ x ∉ ops_part1_W ∧ x ∉ ops_part2_W ∧ x ∉ ops_part3_W ∧
    x ∉ ops_part4_W ∧ x ∉ ops_part5_W) (n : ℕ) : StableHlo.after (pre n) W x = W x := by
  have out : ∀ {L : List (Ref sig .tc)} {l : List (HloOp τ sig (Elt Ideal))},
      (l.Forall fun op => op.writes ⊆ (L.map (Proc.devRef (τ := τ) .tc)).toFinset) → x ∉ L →
      ∀ op ∈ l, Proc.devRef .tc x ∉ op.writes := fun hl hx op hop hb => by
    obtain ⟨y, hy, he⟩ := List.mem_map.mp (List.mem_toFinset.mp ((List.forall_iff_forall_mem.mp hl) op hop hb))
    exact hx (Proc.devRef_injective _ he ▸ hy)
  refine StableHlo.after_of_forall_not_mem _ _ fun op hop => ?_
  have hop := List.mem_of_mem_take hop
  simp only [Value.ops, List.mem_append] at hop
  rcases hop with hop | hop | hop | hop | hop | hop
  exacts [out ops_part0_writes h.1 op hop, out ops_part1_writes h.2.1 op hop, out ops_part2_writes h.2.2.1 op hop,
    out ops_part3_writes h.2.2.2.1 op hop, out ops_part4_writes h.2.2.2.2.1 op hop, out ops_part5_writes h.2.2.2.2.2 op hop]

theorem kept_arg0 (n : ℕ) : StableHlo.after (pre n) W main_arg0 = W main_arg0 := kept W (by decide) n
theorem kept_arg1 (n : ℕ) : StableHlo.after (pre n) W main_arg1 = W main_arg1 := kept W (by decide) n
theorem kept_arg2 (n : ℕ) : StableHlo.after (pre n) W main_arg2 = W main_arg2 := kept W (by decide) n
theorem kept_arg3 (n : ℕ) : StableHlo.after (pre n) W main_arg3 = W main_arg3 := kept W (by decide) n
theorem kept_arg4 (n : ℕ) : StableHlo.after (pre n) W main_arg4 = W main_arg4 := kept W (by decide) n

/-- A column of the data. -/
def start (j : ℕ) (q : ℕ) : EReal := at2 (n := 8192) (m := 2048) (W main_arg0) q j

/-- A layer's operations leave the layer of what the columns were. -/
theorem step {l : ℕ} {A : S12x2048.Idx → EReal} {X Y : S4096x2048.Idx → EReal} {g : Fin 2048 → ℕ → EReal} (hl : l < 12)
    (hY : ∀ (r : Fin 4096) (j : Fin 2048), Y (ix2 r j) = pair A l (fun q => at2 X q j.val) r.val)
    (hX : ∀ (r : Fin 4096) (j : Fin 2048), X (ix2 r j) = g j r.val) (r : Fin 4096) (j : Fin 2048) :
    Y (ix2 r j) = pair A l (g j) r.val := by
  rw [hY r j]
  refine pair_congr hl (fun q hq => ?_) r.isLt
  rw [at2_in _ hq j.isLt]
  exact hX ⟨q, hq⟩ j

/-- The rows as they are after the last layer. -/
theorem rows (hI : ∀ r : Fin 4096, W main_arg3 (ix1 r) = BitVec.ofNat 32 r.val) (r : Fin 4096) (j : Fin 2048) :
    StableHlo.after (pre 338) W main_v332 (ix2 r j) =
      network (W main_arg1) (W main_arg2) (start W j.val) r.val := by
  obtain ⟨l0, l1, l2, l3, l4, l5⟩ := inner
  obtain ⟨l6, l7, l8, l9, l10, l11⟩ := outer
  have h0 : ∀ (r : Fin 4096) (j : Fin 2048), StableHlo.after (pre 9) W main_v6 (ix2 r j) =
      through (W main_arg1) 0 (start W j.val) r.val := fun r j => by
    rw [gathered W hI]
    exact eq_at2_of _ _ rfl rfl
  have h1 : ∀ (r : Fin 4096) (j : Fin 2048), StableHlo.after (pre 35) W main_v32 (ix2 r j) =
      through (W main_arg1) 1 (start W j.val) r.val :=
    step (by norm_num) (fun r j => by rw [pre_add W (n := 9) (k := 26) (m := 35) rfl, l0, kept_arg1]) h0
  have h2 : ∀ (r : Fin 4096) (j : Fin 2048), StableHlo.after (pre 61) W main_v58 (ix2 r j) =
      through (W main_arg1) 2 (start W j.val) r.val :=
    step (by norm_num) (fun r j => by rw [pre_add W (n := 35) (k := 26) (m := 61) rfl, l1, kept_arg1]) h1
  have h3 : ∀ (r : Fin 4096) (j : Fin 2048), StableHlo.after (pre 87) W main_v84 (ix2 r j) =
      through (W main_arg1) 3 (start W j.val) r.val :=
    step (by norm_num) (fun r j => by rw [pre_add W (n := 61) (k := 26) (m := 87) rfl, l2, kept_arg1]) h2
  have h4 : ∀ (r : Fin 4096) (j : Fin 2048), StableHlo.after (pre 113) W main_v110 (ix2 r j) =
      through (W main_arg1) 4 (start W j.val) r.val :=
    step (by norm_num) (fun r j => by rw [pre_add W (n := 87) (k := 26) (m := 113) rfl, l3, kept_arg1]) h3
  have h5 : ∀ (r : Fin 4096) (j : Fin 2048), StableHlo.after (pre 139) W main_v136 (ix2 r j) =
      through (W main_arg1) 5 (start W j.val) r.val :=
    step (by norm_num) (fun r j => by rw [pre_add W (n := 113) (k := 26) (m := 139) rfl, l4, kept_arg1]) h4
  have h6 : ∀ (r : Fin 4096) (j : Fin 2048), StableHlo.after (pre 165) W main_v162 (ix2 r j) =
      through (W main_arg1) 6 (start W j.val) r.val :=
    step (by norm_num) (fun r j => by rw [pre_add W (n := 139) (k := 26) (m := 165) rfl, l5, kept_arg1]) h5
  have g6 : ∀ (r : Fin 4096) (j : Fin 2048), StableHlo.after (pre 182) W main_v176 (ix2 r j) =
      active (W main_arg2) (through (W main_arg1) 6 (start W j.val)) r.val := fun r j => by
    rw [pre_add W (n := 165) (k := 17) (m := 182) rfl, activated, kept_arg2]
    unfold active
    dsimp only
    rw [at2_in _ r.isLt j.isLt, h6]
  have g7 : ∀ (r : Fin 4096) (j : Fin 2048), StableHlo.after (pre 208) W main_v202 (ix2 r j) =
      pair (W main_arg1) 6 (active (W main_arg2) (through (W main_arg1) 6 (start W j.val))) r.val :=
    step (by norm_num) (fun r j => by rw [pre_add W (n := 182) (k := 26) (m := 208) rfl, l6, kept_arg1]) g6
  have g8 : ∀ (r : Fin 4096) (j : Fin 2048), StableHlo.after (pre 234) W main_v228 (ix2 r j) =
      pair (W main_arg1) 7 (pair (W main_arg1) 6 (active (W main_arg2) (through (W main_arg1) 6 (start W j.val)))) r.val :=
    step (by norm_num) (fun r j => by rw [pre_add W (n := 208) (k := 26) (m := 234) rfl, l7, kept_arg1]) g7
  have g9 : ∀ (r : Fin 4096) (j : Fin 2048), StableHlo.after (pre 260) W main_v254 (ix2 r j) =
      pair (W main_arg1) 8 (pair (W main_arg1) 7 (pair (W main_arg1) 6 (active (W main_arg2) (through (W main_arg1) 6 (start W j.val))))) r.val :=
    step (by norm_num) (fun r j => by rw [pre_add W (n := 234) (k := 26) (m := 260) rfl, l8, kept_arg1]) g8
  have g10 : ∀ (r : Fin 4096) (j : Fin 2048), StableHlo.after (pre 286) W main_v280 (ix2 r j) =
      pair (W main_arg1) 9 (pair (W main_arg1) 8 (pair (W main_arg1) 7 (pair (W main_arg1) 6 (active (W main_arg2) (through (W main_arg1) 6 (start W j.val)))))) r.val :=
    step (by norm_num) (fun r j => by rw [pre_add W (n := 260) (k := 26) (m := 286) rfl, l9, kept_arg1]) g9
  have g11 : ∀ (r : Fin 4096) (j : Fin 2048), StableHlo.after (pre 312) W main_v306 (ix2 r j) =
      pair (W main_arg1) 10 (pair (W main_arg1) 9 (pair (W main_arg1) 8 (pair (W main_arg1) 7 (pair (W main_arg1) 6 (active (W main_arg2) (through (W main_arg1) 6 (start W j.val))))))) r.val :=
    step (by norm_num) (fun r j => by rw [pre_add W (n := 286) (k := 26) (m := 312) rfl, l10, kept_arg1]) g10
  have g12 : ∀ (r : Fin 4096) (j : Fin 2048), StableHlo.after (pre 338) W main_v332 (ix2 r j) =
      pair (W main_arg1) 11 (pair (W main_arg1) 10 (pair (W main_arg1) 9 (pair (W main_arg1) 8 (pair (W main_arg1) 7 (pair (W main_arg1) 6 (active (W main_arg2) (through (W main_arg1) 6 (start W j.val)))))))) r.val :=
    step (by norm_num) (fun r j => by rw [pre_add W (n := 312) (k := 26) (m := 338) rfl, l11, kept_arg1]) g11
  exact g12 r j

/-- What the program leaves in its result. -/
theorem value (hI : ∀ r : Fin 4096, W main_arg3 (ix1 r) = BitVec.ofNat 32 r.val)
    (hO : ∀ r : Fin 4096, W main_arg4 (ix1 r) = BitVec.ofNat 32 r.val) (r : Fin 8192) (j : Fin 2048) :
    StableHlo.after (Value.ops (F := Ideal)) W main_v339 (ix2 r j) =
      if r.val < 4096 then network (W main_arg1) (W main_arg2) (start W j.val) r.val else W main_arg0 (ix2 r j) := by
  rw [pre_rest W 338, written _ (fun q => by rw [kept_arg4, hO]), kept_arg0]
  by_cases h : r.val < 4096
  · rw [dif_pos h, if_pos h, rows W hI]
  · rw [dif_neg h, if_neg h]

end Cert.ReferenceIdeal.Layers

end
-- ==== Proof.RefRun.lean ====
module

public import proofs.«01_k».proof.Proof.RefValue

@[expose] public section

/-!
The run of the reference program: it terminates, leaves its arguments as they were and its result as the operations
compose it.  It has no semaphores, so every counter is zero.
-/

noncomputable section

namespace Cert.ReferenceIdeal.Layers

open Cert.ReferenceIdeal Cert.ReferenceIdeal.Value
open Idealize.ShloMosaic Idealize.ShloMosaic.TcCoe Idealize.ShloMosaic.Tactic Idealize.SL.Sem

variable (m : (ℓ : Loc nD τ sig) → Buf (Elt Ideal) ℓ) (ρ : Dev nD → PrngReg)

/-- The program has no semaphore. -/
theorem no_semaphore (x : Thread nD τ × SemLoc sig) : False := by
  rcases x with ⟨_, s | s⟩
  · exact s.elim0
  · exact s.elim0

/-- An argument is as it was after the whole program. -/
theorem kept_all {x : Ref sig .tc} (W : Valuation τ sig (Elt Ideal)) (h : x ∉ ops_part0_W ∧ x ∉ ops_part1_W ∧
    x ∉ ops_part2_W ∧ x ∉ ops_part3_W ∧ x ∉ ops_part4_W ∧ x ∉ ops_part5_W) :
    StableHlo.after (Value.ops (F := Ideal)) W x = W x := by
  have := kept W h (Value.ops (F := Ideal)).length
  rwa [pre, List.take_length] at this

/-- The reference program's run. -/
theorem run : θ_run defs (onTc (τ := τ) (main (F := Ideal))) ⟨m, fun _ => 0, ρ⟩ (fun r => (∀ c : Dev nD,
      r.2.mem ((c.tc : Thread nD τ).loc main_v339) = StableHlo.after (Value.ops (F := Ideal)) (StableHlo.launchContents m c) main_v339
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h c main_v339, (h c main_arg0).trans (kept_all _ (by decide)),
      (h c main_arg1).trans (kept_all _ (by decide)), (h c main_arg2).trans (kept_all _ (by decide)),
      (h c main_arg3).trans (kept_all _ (by decide)), (h c main_arg4).trans (kept_all _ (by decide))⟩,
      funext fun x => (no_semaphore x).elim⟩)
    (StableHlo.run_seq scopedRefs_eq scopedSems_eq defs main (fun _ => Value.ops) main_eq (fun _ => ops_sub) m ρ
      fun _ => ops_fresh)

end Cert.ReferenceIdeal.Layers

end
-- ==== Proof.Given.lean ====
module

public import proofs.«01_k».proof.Pre_arange_indices_finite_inputs
public import proofs.«01_k».proof.Proof.Gen.Pre_arange_indices_finite_inputs
public import proofs.«01_k».proof.Proof.Layers
public import Idealize.ShloMosaic.Lib.PointwiseCore

@[expose] public section

/-!
What the precondition says of the arguments: the row numbers count up from zero, and the rows and angles that the input
stage reads are real numbers.
-/

noncomputable section

namespace Cert.Pre_arange_indices_finite_inputs.Meaning

open Cert.Pre_arange_indices_finite_inputs Butterfly
open Idealize.ShloMosaic

/-- Absolute value below infinity: a real number. -/
theorem real_of_abs_lt {v : EReal}
    (h : BitVec.ofBool (decide (FloatOps.absf (F := Ideal) (φ := FTy.f32) v < Ideal.ofBits FTy.f32 2139095040#32)) = 1#1) :
    ∃ a : ℝ, v = a := by
  have htop : Ideal.ofBits .f32 2139095040#32 = ⊤ := by simp [Ideal.ofBits, Ideal.ieee]
  have hlt : max v (-v) < ⊤ := by
    by_contra hn
    rw [htop] at h
    rw [decide_eq_false (show ¬ FloatOps.absf (F := Ideal) (φ := FTy.f32) v < ⊤ from hn)] at h
    exact absurd h (by decide)
  induction v with
  | bot => exact absurd hlt (by simp)
  | top => exact absurd hlt (by simp)
  | coe a => exact ⟨a, rfl⟩

variable [Facts] {x : S8192x2048.Idx → EReal} {A : S12x2048.Idx → EReal} {b : S2048.Idx → EReal} {I O : S4096.Idx → BitVec 32}

/-- The first 4096 rows are real numbers. -/
theorem rows_real (h : (fn (F := Ideal) x A b I O).1 = fun _ => 1#1) : ∀ r < 4096, ∀ j < 2048, ∃ a : ℝ, at2 x r j = a := by
  intro r hr j hj
  have h := congrFun h (ix2 ⟨r, hr⟩ ⟨j, hj⟩)
  dsimp only [fn] at h
  pointwise at h
  obtain ⟨a, ha⟩ := real_of_abs_lt h
  exact ⟨a, (eq_at2_of x _ rfl rfl).symm.trans ha⟩

/-- The angles of layers 0 to 5 are real numbers. -/
theorem angles_real (h : (fn (F := Ideal) x A b I O).2.1 = fun _ => 1#1) : ∀ l < 6, ∀ j < 2048, ∃ a : ℝ, at2 A l j = a := by
  intro l hl j hj
  have h := congrFun h (ix2 ⟨l, hl⟩ ⟨j, hj⟩)
  dsimp only [fn] at h
  pointwise at h
  obtain ⟨a, ha⟩ := real_of_abs_lt h
  exact ⟨a, (eq_at2_of A _ rfl rfl).symm.trans ha⟩

/-- Equal words compare equal. -/
theorem eq_of_cmp {u v : BitVec 32} (h : IntOp.cmpi CmpIPredicate.eq u v = 1#1) : u = v := by
  simp only [IntOp.cmpi] at h
  by_contra hn
  rw [beq_eq_false_iff_ne.mpr hn] at h
  exact absurd h (by decide)

/-- The row numbers to read count up from zero. -/
theorem reads (h : (fn (F := Ideal) x A b I O).2.2.1 = fun _ => 1#1) (r : Fin 4096) :
    I (ix1 r) = BitVec.ofNat 32 r.val := by
  have h := congrFun h (ix1 r)
  dsimp only [fn] at h
  pointwise at h
  exact eq_of_cmp h

/-- The row numbers to write count up from zero. -/
theorem writes (h : (fn (F := Ideal) x A b I O).2.2.2 = fun _ => 1#1) (r : Fin 4096) :
    O (ix1 r) = BitVec.ofNat 32 r.val := by
  have h := congrFun h (ix1 r)
  dsimp only [fn] at h
  pointwise at h
  exact eq_of_cmp h

end Cert.Pre_arange_indices_finite_inputs.Meaning

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_arange_indices_finite_inputs
public import proofs.«01_k».proof.Proof.KernelFrame
public import proofs.«01_k».proof.Proof.Result
public import proofs.«01_k».proof.Proof.RefRun
public import proofs.«01_k».proof.Proof.Given
public import Idealize.ShloMosaic.Adequacy
public import proofs.«01_k».proof.Proof.Gen.ReferenceIdeal.Read
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts
  Cert.Pre_arange_indices_finite_inputs.Gen.facts

/-- The kernel runs and keeps its arguments. -/
theorem kernel : Cert.quiescent_Kernel := fun m g _ => Cert.Kernel.Run.frame m g

/-- So does the kernel over the extended reals. -/
theorem kernelIdeal : Cert.quiescent_KernelIdeal := fun m g _ =>
  (θ_run _ _ _).mono (fun _ h => ⟨fun c => (h.1 c).2, h.2⟩) (Cert.KernelIdeal.Run.run m g)

/-- So does the reference. -/
theorem referenceIdeal : Cert.quiescent_ReferenceIdeal := fun m g _ =>
  (θ_run _ _ _).mono (fun _ h => ⟨fun c => (h.1 c).2, h.2⟩) (Cert.ReferenceIdeal.Layers.run m g)

/-- The kernel's result and the reference's are the same network of the same arguments. -/
theorem algebraic : Cert.algebraic_KernelIdeal_ReferenceIdeal_pre_arange_indices_finite_inputs := fun m g m' g' hp ha =>
  ⟨fun c => Cert.KernelIdeal.Run.result m c,
    (θ_run _ _ _).mono (fun _ h => h.1) (Cert.KernelIdeal.Run.run m g),
    (θ_run _ _ _).mono (fun _ h c => ⟨(h.1 c).1.trans (by
      obtain ⟨h0, h1, h2, h3, h4⟩ := ha c
      obtain ⟨p0, p1, p2, p3⟩ := hp c
      refine Butterfly.ext2 fun r j => ?_
      have e0 : StableHlo.launchContents m' c (Proc.tc.devRef Cert.ReferenceIdeal.main_arg0) = _ := h0
      have e1 : StableHlo.launchContents m' c (Proc.tc.devRef Cert.ReferenceIdeal.main_arg1) = _ := h1
      have e2 : StableHlo.launchContents m' c (Proc.tc.devRef Cert.ReferenceIdeal.main_arg2) = _ := h2
      refine Eq.trans ?_ (Cert.KernelIdeal.Run.result_network m c
        (Cert.Pre_arange_indices_finite_inputs.Meaning.angles_real p1)
        (Cert.Pre_arange_indices_finite_inputs.Meaning.rows_real p0) r j).symm
      refine (Cert.ReferenceIdeal.Layers.value _ (fun q => (congrFun h3 _).trans
        (Cert.Pre_arange_indices_finite_inputs.Meaning.reads p2 q)) (fun q => (congrFun h4 _).trans
        (Cert.Pre_arange_indices_finite_inputs.Meaning.writes p3 q)) r j).trans ?_
      unfold Cert.ReferenceIdeal.Layers.start
      rw [e0, e1, e2]), (h.1 c).2⟩) (Cert.ReferenceIdeal.Layers.run m' g')⟩

theorem claim : Cert.Claim := ⟨Cert.Kernel.Gen.facts, Cert.KernelIdeal.Gen.facts, Cert.ReferenceIdeal.Gen.facts,
  Cert.Pre_arange_indices_finite_inputs.Gen.facts, kernel, kernelIdeal, fun m g _ => kernelIdeal m g trivial,
  referenceIdeal, fun m g _ => referenceIdeal m g trivial, trivial, algebraic⟩

end Cert.Proof

end
